-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S4x1024x32x128 : S_.BroadcastsInDim S4x1024x32x128 (![] : Fin 0 → Fin S4x1024x32x128.rank)

variable [Facts]

def fn {F : FTy → Type} [FloatOps F] (main_arg0 : FVec F S1x1024x1024 .f32) (main_arg1 : FVec F S1024x1024 .f32) (main_arg2 : FVec F S4x1024x32x128 .f32) (main_arg3 : FVec F S4x1024x32x128 .f32) (main_arg4 : FVec F S1024x1024 .f32) : IVec S1x1024x1024 1 × IVec S1024x1024 1 × IVec S4x1024x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x1024x32x128 .f32 := Host.absf main_arg2
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Pre_finite_scores_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  bcast_S_S1024x4096 : S_.BroadcastsInDim S1024x4096 (![] : Fin 0 → Fin S1024x4096.rank)
  bcast_S_S4x1024x32x128 : S_.BroadcastsInDim S4x1024x32x128 (![] : Fin 0 → Fin S4x1024x32x128.rank)

variable [Facts]

def fn {F : FTy → Type} [FloatOps F] (main_arg0 : FVec F S4x1024x1024 .f32) (main_arg1 : FVec F S1024x4096 .f32) (main_arg2 : FVec F S4x1024x32x128 .f32) (main_arg3 : FVec F S4x1024x32x128 .f32) (main_arg4 : FVec F S4096x1024 .f32) : IVec S4x1024x1024 1 × IVec S1024x4096 1 × IVec S4x1024x32x128 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4x1024x32x128 .f32 := Host.absf main_arg2
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S4x1024x512 : Shape := ⟨3, ![4, 1024, 512]⟩
abbrev S4x512x1024 : Shape := ⟨3, ![4, 512, 1024]⟩
abbrev S1024x512 : Shape := ⟨2, ![1024, 512]⟩
abbrev S2x4x1024x4x128 : Shape := ⟨5, ![2, 4, 1024, 4, 128]⟩
abbrev S2x4 : Shape := ⟨2, ![2, 4]⟩
abbrev S2x3x2 : Shape := ⟨3, ![2, 3, 2]⟩
abbrev S_ : Shape := ⟨0, ![]⟩
abbrev S1x1024x512 : Shape := ⟨3, ![1, 1024, 512]⟩
abbrev S512x1024 : Shape := ⟨2, ![512, 1024]⟩
abbrev S1x512x1024 : Shape := ⟨3, ![1, 512, 1024]⟩
abbrev S512x512 : Shape := ⟨2, ![512, 512]⟩
abbrev S1x1x1 : Shape := ⟨3, ![1, 1, 1]⟩
abbrev S1x1 : Shape := ⟨2, ![1, 1]⟩
abbrev S1x1x1024x4x128 : Shape := ⟨5, ![1, 1, 1024, 4, 128]⟩
abbrev S1024x4x128 : Shape := ⟨3, ![1024, 4, 128]⟩
abbrev S1x1024x4x128 : Shape := ⟨4, ![1, 1024, 4, 128]⟩
abbrev S512x128 : Shape := ⟨2, ![512, 128]⟩
abbrev S1x1x1024x1x128 : Shape := ⟨5, ![1, 1, 1024, 1, 128]⟩
abbrev S1024x128 : Shape := ⟨2, ![1024, 128]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S4x1024x512, .bf16⟩
  | .local _ .vmem, ⟨5, _⟩ => ⟨S4x512x1024, .bf16⟩
  | .local _ .vmem, ⟨6, _⟩ => ⟨S4x1024x512, .bf16⟩
  | .local _ .vmem, ⟨7, _⟩ => ⟨S4x512x1024, .bf16⟩
  | .local _ .vmem, ⟨8, _⟩ => ⟨S1024x1024, .bf16⟩
  | .local _ .vmem, ⟨9, _⟩ => ⟨S1024x512, .bf16⟩
  | .local _ .vmem, ⟨10, _⟩ => ⟨S2x4x1024x4x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : Index := Scalar.indexCast v2
  let c0_18 : Index := 0#32
  let c0_19 : Index := 0#32
  ![v24.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v38 : Index := Scalar.indexCast v2
  let c0_25 : Index := 0#32
  let c0_26 : Index := 0#32
  ![v38.toNat, 0, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_52 : BitVec 32 := 0#32
  let c0_i32_53 : BitVec 32 := 0#32
  ![v2.toNat, 0, 0]
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_50 : BitVec 32 := 1#32
  let v100 : BitVec 32 := Scalar.muli v7 c1_i32_50
  let v101 : BitVec 32 := Scalar.addi c0_i32_51 v100
  v101.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_64 : BitVec 32 := 0#32
  let c0_i32_65 : BitVec 32 := 0#32
  ![v2.toNat, 0, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_62 : BitVec 32 := 1#32
  let v110 : BitVec 32 := Scalar.muli v7 c1_i32_62
  let v111 : BitVec 32 := Scalar.addi c0_i32_63 v110
  v111.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_74 : BitVec 32 := 1#32
  let v120 : BitVec 32 := Scalar.muli v5 c1_i32_74
  let v121 : BitVec 32 := Scalar.addi c0_i32_75 v120
  v121.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_86 : BitVec 32 := 1#32
  let v130 : BitVec 32 := Scalar.muli v5 c1_i32_86
  let v131 : BitVec 32 := Scalar.addi c0_i32_87 v130
  v131.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_98 : BitVec 32 := 1#32
  let v140 : BitVec 32 := Scalar.muli v7 c1_i32_98
  let v141 : BitVec 32 := Scalar.addi c0_i32_99 v140
  v141.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_110 : BitVec 32 := 1#32
  let v150 : BitVec 32 := Scalar.muli v7 c1_i32_110
  let v151 : BitVec 32 := Scalar.addi c0_i32_111 v150
  v151.toNat
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_122 : BitVec 32 := 1#32
  let v160 : BitVec 32 := Scalar.muli v5 c1_i32_122
  let v161 : BitVec 32 := Scalar.addi c0_i32_123 v160
  v161.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_134 : BitVec 32 := 1#32
  let v170 : BitVec 32 := Scalar.muli v5 c1_i32_134
  let v171 : BitVec 32 := Scalar.addi c0_i32_135 v170
  v171.toNat
def k0_off5 (d0 : Dev nD) (c0_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_154 : BitVec 32 := 0#32
  let c8_i32 : BitVec 32 := 8#32
  let v180 : BitVec 32 := Scalar.muli v2 c8_i32
  let v181 : BitVec 32 := Scalar.addi v180 c0_i32_140
  let c0_i32_155 : BitVec 32 := 0#32
  ![v2.toNat, 0, v181.toNat, 0]
def k0_off6 (d0 : Dev nD) (c0_i32_219 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_233 : BitVec 32 := 0#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_218 : BitVec 32 := 8#32
  let v236 : BitVec 32 := Scalar.muli v5 c8_i32_218
  let v237 : BitVec 32 := Scalar.addi v236 c0_i32_219
  let c0_i32_234 : BitVec 32 := 0#32
  ![v2.toNat, 0, v237.toNat, 0]
def k0_off7 (d0 : Dev nD) (c1_i32_3 : BitVec 32) (c4_i32_223 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_251 : BitVec 32 := 0#32
  let v6 : BitVec 32 := Scalar.addi v2 c1_i32_3
  let c4_i32_4 : BitVec 32 := 4#32
  let v7 : BitVec 32 := Scalar.remsi v6 c4_i32_4
  let c8_i32_222 : BitVec 32 := 8#32
  let v240 : BitVec 32 := Scalar.muli v7 c8_i32_222
  let v241 : BitVec 32 := Scalar.addi v240 c4_i32_223
  let c0_i32_252 : BitVec 32 := 0#32
  ![v2.toNat, 0, v241.toNat, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_486 : BitVec 32 := 0#32
  let c0_i32_487 : BitVec 32 := 0#32
  ![v5.toNat, 0, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_498 : BitVec 32 := 0#32
  let c0_i32_499 : BitVec 32 := 0#32
  ![v5.toNat, 0, 0]
def k0_off10 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_510 : BitVec 32 := 0#32
  let c0_i32_511 : BitVec 32 := 0#32
  ![v7.toNat, 0, 0]
def k0_off11 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_522 : BitVec 32 := 0#32
  let c0_i32_523 : BitVec 32 := 0#32
  ![v7.toNat, 0, 0]
def k0_dev11 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_532 : BitVec 32 := 1#32
  let v727 : BitVec 32 := Scalar.muli v7 c1_i32_532
  let v728 : BitVec 32 := Scalar.addi c0_i32_533 v727
  v728.toNat
def k0_dev12 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_544 : BitVec 32 := 1#32
  let v737 : BitVec 32 := Scalar.muli v7 c1_i32_544
  let v738 : BitVec 32 := Scalar.addi c0_i32_545 v737
  v738.toNat
def k0_dev13 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_556 : BitVec 32 := 1#32
  let v747 : BitVec 32 := Scalar.muli v5 c1_i32_556
  let v748 : BitVec 32 := Scalar.addi c0_i32_557 v747
  v748.toNat
def k0_dev14 (d0 : Dev nD) : Nat :=
  let c0_i32_569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_568 : BitVec 32 := 1#32
  let v757 : BitVec 32 := Scalar.muli v5 c1_i32_568
  let v758 : BitVec 32 := Scalar.addi c0_i32_569 v757
  v758.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v825 : Index := Scalar.indexCast v5
  let c0_657 : Index := 0#32
  let c0_658 : Index := 0#32
  ![v825.toNat, 0, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v828 : Index := Scalar.indexCast v5
  let c0_659 : Index := 0#32
  let c0_660 : Index := 0#32
  ![v828.toNat, 0, 0]
def k0_off14 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v1040 : Index := Scalar.indexCast v7
  let c0_770 : Index := 0#32
  let c0_771 : Index := 0#32
  ![v1040.toNat, 0, 0]
def k0_off15 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v1043 : Index := Scalar.indexCast v7
  let c0_772 : Index := 0#32
  let c0_773 : Index := 0#32
  ![v1043.toNat, 0, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x1024x4096, .f32⟩
  | .hbm, ⟨6, _⟩ => ⟨S4x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S4x32x1024x1024, .f32⟩
  | .hbm, ⟨51, _⟩ => ⟨S_, .f32⟩
  | .hbm, ⟨52, _⟩ => ⟨S4x32x1024x1024, .f32⟩
  | .hbm, ⟨53, _⟩ => ⟨S4x32x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S4x32x1024x1024, .i1⟩
  | .hbm, ⟨58, _⟩ => ⟨S4x32x1024x1024, .f32⟩
  | .hbm, ⟨59, _⟩ => ⟨S4x32x1024x1024, .f32⟩
  | .hbm, ⟨60, _⟩ => ⟨S_, .f32⟩
  | .hbm, ⟨61, _⟩ => ⟨S4x32x1024, .f32⟩
  | .hbm, ⟨62, _⟩ => ⟨S4x32x1024x1, .f32⟩
  | .hbm, ⟨63, _⟩ => ⟨S4x32x1024x1024, .f32⟩
  | .hbm, ⟨64, _⟩ => ⟨S4x32x1024x1024, .f32⟩
  | .hbm, ⟨65, _⟩ => ⟨S4x32x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S4x32x1024, .f32⟩
  | .hbm, ⟨71, _⟩ => ⟨S4x32x1024x1, .f32⟩
  | .hbm, ⟨72, _⟩ => ⟨S_, .f32⟩
  | .hbm, ⟨73, _⟩ => ⟨S_, .f32⟩
  | .hbm, ⟨74, _⟩ => ⟨S4x32x1024x1, .i1⟩
  | .hbm, ⟨75, _⟩ => ⟨S4x32x1024x1, .f32⟩
  | .hbm, ⟨76, _⟩ => ⟨S4x32x1024x1, .f32⟩
  | .hbm, ⟨77, _⟩ => ⟨S4x32x1024x1024, .f32⟩
  | .hbm, ⟨78, _⟩ => ⟨S4x32x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S4x32x1024x1024, .i1⟩
  | .hbm, ⟨83, _⟩ => ⟨S4x32x1024x1024, .f32⟩
  | .hbm, ⟨84, _⟩ => ⟨S4x32x1024x1024, .f32⟩
  | .hbm, ⟨85, _⟩ => ⟨S4x32x128x1024, .f32⟩
  | .hbm, ⟨86, _⟩ => ⟨S4x1024x32x128, .f32⟩
  | .hbm, ⟨87, _⟩ => ⟨S4x1024x4096, .f32⟩
  | .hbm, ⟨88, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Body.lean ====
/-
# The kernel's body, written by its phases

The kernel handles its eight halves of four heads with one text repeated eight times, cut into parts at arbitrary
places. Here the same sequence of memory operations is written once per phase — a head, a half, a send, a copy of
keys and values — and `body_eq` says that the printed body is that sequence.
-/
module

public import proofs.«01_k».proof.Proof.Gen.KernelIdeal.Skeleton
public import proofs.«01_k».proof.Proof.Gen.KernelIdeal.Points

@[expose] public section

noncomputable section

namespace Cert.KernelIdeal.Attn

open Idealize.ShloMosaic Idealize.SL.Sem Cert.KernelIdeal.Gen

variable {F : FTy → Type} [FloatOps F]

/-- A program of the kernel's core. -/
abbrev KProg (α : Type) := Prog (TpuEff nD τ sig (Elt F) Λ₀ .tc) α

/-! ## The buffers -/

abbrev xM : Memref sig .tc .vmem S1x1024x1024 .f32 := Memref.whole cc0_stg0_0
abbrev wqM : Memref sig .tc .vmem S1024x1024 .f32 := Memref.whole cc0_stg1_0
abbrev kM : Memref sig .tc .hbm S4x1024x32x128 .f32 := Memref.whole main_arg2
abbrev vM : Memref sig .tc .hbm S4x1024x32x128 .f32 := Memref.whole main_arg3
abbrev woM : Memref sig .tc .vmem S1024x1024 .f32 := Memref.whole cc0_stg2_0
abbrev outM : Memref sig .tc .vmem S1x1024x1024 .f32 := Memref.whole cc0_stg3_0
abbrev qaM : Memref sig .tc .vmem S4x1024x512 .bf16 := Memref.whole cc0_scratch0
abbrev oaM : Memref sig .tc .vmem S4x512x1024 .bf16 := Memref.whole cc0_scratch1
abbrev qbM : Memref sig .tc .vmem S4x1024x512 .bf16 := Memref.whole cc0_scratch2
abbrev obM : Memref sig .tc .vmem S4x512x1024 .bf16 := Memref.whole cc0_scratch3
abbrev xbM : Memref sig .tc .vmem S1024x1024 .bf16 := Memref.whole cc0_scratch4
abbrev ctxM : Memref sig .tc .vmem S1024x512 .bf16 := Memref.whole cc0_scratch5
abbrev kvM : Memref sig .tc .vmem S2x4x1024x4x128 .f32 := Memref.whole cc0_scratch6

/-- Slot `off` of a query-weight buffer lies inside it. -/
abbrev QIn (off : Fin 3 → ℕ) : Prop := ∀ a, off a + S1x1024x512.size a ≤ S4x1024x512.size a
/-- Slot `off` of an output-weight buffer lies inside it. -/
abbrev OIn (off : Fin 3 → ℕ) : Prop := ∀ a, off a + S1x512x1024.size a ≤ S4x512x1024.size a
/-- Block `off` of the keys or values lies inside the argument. -/
abbrev KIn (off : Fin 4 → ℕ) : Prop := ∀ a, off a + S1x1024x4x128.size a ≤ S4x1024x32x128.size a

abbrev qRect (off : Fin 3 → ℕ) (h : QIn off) : Rect S4x1024x512 := Rect.unit (s := S4x1024x512) off S1x1024x512.size h
abbrev oRect (off : Fin 3 → ℕ) (h : OIn off) : Rect S4x512x1024 := Rect.unit (s := S4x512x1024) off S1x512x1024.size h

/-- One slot of a query-weight buffer, as a matrix. -/
abbrev qSlot (M : Memref sig .tc .vmem S4x1024x512 .bf16) (off : Fin 3 → ℕ) (h : QIn off) : Memref sig .tc .vmem S1024x512 .bf16 :=
  (M.slice (qRect off h) (fun _ => rfl)).squeeze S1024x512 squeezes_S1x1024x512_S1024x512
/-- One slot of an output-weight buffer, as a matrix. -/
abbrev oSlot (M : Memref sig .tc .vmem S4x512x1024 .bf16) (off : Fin 3 → ℕ) (h : OIn off) : Memref sig .tc .vmem S512x1024 .bf16 :=
  (M.slice (oRect off h) (fun _ => rfl)).squeeze S512x1024 squeezes_S1x512x1024_S512x1024

theorem inbKV (p i : ℕ) (hp : p < 2) (hi : i < 4) :
    ∀ a, (![p, i, 0, 0, 0] : Fin 5 → ℕ) a + S1x1x1024x4x128.size a ≤ S2x4x1024x4x128.size a := by
  have key : ∀ (p : Fin 2) (i : Fin 4), ∀ a, (![p.val, i.val, 0, 0, 0] : Fin 5 → ℕ) a + S1x1x1024x4x128.size a ≤ S2x4x1024x4x128.size a := by decide
  exact key ⟨p, hp⟩ ⟨i, hi⟩
theorem inbKVh (p i h : ℕ) (hp : p < 2) (hi : i < 4) (hh : h < 4) :
    ∀ a, (![p, i, 0, h, 0] : Fin 5 → ℕ) a + S1x1x1024x1x128.size a ≤ S2x4x1024x4x128.size a := by
  have key : ∀ (p : Fin 2) (i h : Fin 4), ∀ a, (![p.val, i.val, 0, h.val, 0] : Fin 5 → ℕ) a + S1x1x1024x1x128.size a ≤ S2x4x1024x4x128.size a := by decide
  exact key ⟨p, hp⟩ ⟨i, hi⟩ ⟨h, hh⟩
theorem inbKVs (p i : ℕ) (hp : p < 2) (hi : i < 4) : ∀ a, (![p, i] : Fin 2 → ℕ) a + S1x1.size a ≤ S2x4.size a := by
  have key : ∀ (p : Fin 2) (i : Fin 4), ∀ a, (![p.val, i.val] : Fin 2 → ℕ) a + S1x1.size a ≤ S2x4.size a := by decide
  exact key ⟨p, hp⟩ ⟨i, hi⟩
theorem inbLink (l j t : ℕ) (hl : l < 2) (hj : j < 3) (ht : t < 2) : ∀ a, (![l, j, t] : Fin 3 → ℕ) a + S1x1x1.size a ≤ S2x3x2.size a := by
  have key : ∀ (l : Fin 2) (j : Fin 3) (t : Fin 2), ∀ a, (![l.val, j.val, t.val] : Fin 3 → ℕ) a + S1x1x1.size a ≤ S2x3x2.size a := by decide
  exact key ⟨l, hl⟩ ⟨j, hj⟩ ⟨t, ht⟩
theorem inbCtx (r h : ℕ) (hr : r < 2) (hh : h < 4) : ∀ a, (![512 * r, 128 * h] : Fin 2 → ℕ) a + S512x128.size a ≤ S1024x512.size a := by
  have key : ∀ (r : Fin 2) (h : Fin 4), ∀ a, (![512 * r.val, 128 * h.val] : Fin 2 → ℕ) a + S512x128.size a ≤ S1024x512.size a := by decide
  exact key ⟨r, hr⟩ ⟨h, hh⟩
theorem slCtx (r h : ℕ) (hr : r < 2) (hh : h < 4) : S1024x512.Slices ![512 * r, 128 * h] S512x128 := by
  have key : ∀ (r : Fin 2) (h : Fin 4), S1024x512.Slices ![512 * r.val, 128 * h.val] S512x128 := by decide
  exact key ⟨r, hr⟩ ⟨h, hh⟩
theorem packCtx (r h : ℕ) (hr : r < 2) (hh : h < 4) :
    (Rect.unit (s := S1024x512) ![512 * r, 128 * h] S512x128.size (inbCtx r h hr hh)).PackedRows (EltTy.packing .bf16) := by
  have key : ∀ (r : Fin 2) (h : Fin 4), (Rect.unit (s := S1024x512) ![512 * r.val, 128 * h.val] S512x128.size (inbCtx r.val h.val r.isLt h.isLt)).PackedRows (EltTy.packing .bf16) := by decide
  exact key ⟨r, hr⟩ ⟨h, hh⟩

/-! ## The semaphores -/

/-- The semaphore of copy `i` into half `p` of the key/value buffer. -/
abbrev kvSem (p i : ℕ) (hp : p < 2) (hi : i < 4) : DmaSem sig :=
  (SemArray.squeeze (SemArray.slice cc0_scratch7 (Rect.unit (s := S2x4) ![p, i] S1x1.size (inbKVs p i hp hi))) S_ squeezes_S1x1_S_).sem
/-- The send semaphore `(l, j, t)`. -/
abbrev sndSem (l j t : ℕ) (hl : l < 2) (hj : j < 3) (ht : t < 2) : DmaSem sig :=
  (SemArray.squeeze (SemArray.slice cc0_scratch8 (Rect.unit (s := S2x3x2) ![l, j, t] S1x1x1.size (inbLink l j t hl hj ht))) S_ squeezes_S1x1x1_S_).sem
/-- The receive semaphore `(l, j, t)`. -/
abbrev rcvSem (l j t : ℕ) (hl : l < 2) (hj : j < 3) (ht : t < 2) : DmaSem sig :=
  (SemArray.squeeze (SemArray.slice cc0_scratch9 (Rect.unit (s := S2x3x2) ![l, j, t] S1x1x1.size (inbLink l j t hl hj ht))) S_ squeezes_S1x1x1_S_).sem
/-- The barrier semaphore. -/
abbrev barSem : Sem sig := (SemArray.scalar (sig.barrier 0 rfl) : Sems sig S_).sem

/-! ## The phases -/

/-- The mask of the block-causal diagonal square. -/
abbrev mask : IVec S512x512 1 := k0_pay9 k0_pay6 k0_pay7 k0_pay8

/-- Block `i` of half `p` of the key/value buffer. -/
abbrev kvSlot (p i : ℕ) (hp : p < 2) (hi : i < 4) : Memref sig .tc .vmem S1024x4x128 .f32 :=
  (kvM.slice (Rect.unit (s := S2x4x1024x4x128) ![p, i, 0, 0, 0] S1x1x1024x4x128.size (inbKV p i hp hi)) (fun _ => rfl)).squeeze S1024x4x128 squeezes_S1x1x1024x4x128_S1024x4x128
/-- Four heads of one batch of the keys or values. -/
abbrev kBlk (M : Memref sig .tc .hbm S4x1024x32x128 .f32) (off : Fin 4 → ℕ) (h : KIn off) : Memref sig .tc .hbm S1024x4x128 .f32 :=
  (M.slice (Rect.unit (s := S4x1024x32x128) off S1x1024x4x128.size h) (fun _ => rfl)).squeeze S1024x4x128 squeezes_S1x1024x4x128_S1024x4x128

/-- Start the copy of one block of keys or values. -/
def kvStart (M : Memref sig .tc .hbm S4x1024x32x128 .f32) (off : Fin 4 → ℕ) (h : KIn off) (p i : ℕ) (hp : p < 2) (hi : i < 4) : KProg (F := F) PUnit :=
  Prog.lift (.enqueueDma (kBlk M off h) (.here (kvSlot p i hp hi)) (.dma (kvSem p i hp hi)) ((View.wordExact_bits rfl).reshape _ _) ((View.wordExact_bits rfl).reshape _ _) ⟨Or.inl rfl, trivial⟩)
/-- Wait for the copy of one block of keys or values. -/
def kvWait (M : Memref sig .tc .hbm S4x1024x32x128 .f32) (off : Fin 4 → ℕ) (h : KIn off) (p i : ℕ) (hp : p < 2) (hi : i < 4) : KProg (F := F) PUnit :=
  Prog.lift (.waitDma2 (kvSem p i hp hi) (kBlk M off h) (kvSlot p i hp hi) ((View.wordExact_bits rfl).reshape _ _) ((View.wordExact_bits rfl).reshape _ _))
/-- Start the four copies of a step: keys and values of the first half, keys and values of the second. -/
def kvStarts (o₁ o₂ : Fin 4 → ℕ) (h₁ : KIn o₁) (h₂ : KIn o₂) (p : ℕ) (hp : p < 2) : KProg (F := F) PUnit := do
  kvStart kM o₁ h₁ p 0 hp (by decide)
  kvStart vM o₁ h₁ p 1 hp (by decide)
  kvStart kM o₂ h₂ p 2 hp (by decide)
  kvStart vM o₂ h₂ p 3 hp (by decide)
/-- Wait for the four copies of a step. -/
def kvWaits (o₁ o₂ : Fin 4 → ℕ) (h₁ : KIn o₁) (h₂ : KIn o₂) (p : ℕ) (hp : p < 2) : KProg (F := F) PUnit := do
  kvWait kM o₁ h₁ p 0 hp (by decide)
  kvWait vM o₁ h₁ p 1 hp (by decide)
  kvWait kM o₂ h₂ p 2 hp (by decide)
  kvWait vM o₂ h₂ p 3 hp (by decide)

/-- Send one slot of query weights to the same slot at device `d`. -/
def sendQ (M : Memref sig .tc .vmem S4x1024x512 .bf16) (off : Fin 3 → ℕ) (h : QIn off) (w : (qSlot M off h).view.WordExact) (d : Dev nD)
    (l j : ℕ) (hl : l < 2) (hj : j < 3) : KProg (F := F) PUnit :=
  Prog.lift (.enqueueDma (qSlot M off h) (.remote (Dev.tc d) (qSlot M off h) (.dma (sndSem l j 0 hl hj (by decide)))) (.dma (rcvSem l j 0 hl hj (by decide))) w w ⟨⟨rfl, Or.inl rfl⟩, trivial⟩)
/-- Send one slot of output weights to the same slot at device `d`. -/
def sendO (M : Memref sig .tc .vmem S4x512x1024 .bf16) (off : Fin 3 → ℕ) (h : OIn off) (w : (oSlot M off h).view.WordExact) (d : Dev nD)
    (l j : ℕ) (hl : l < 2) (hj : j < 3) : KProg (F := F) PUnit :=
  Prog.lift (.enqueueDma (oSlot M off h) (.remote (Dev.tc d) (oSlot M off h) (.dma (sndSem l j 1 hl hj (by decide)))) (.dma (rcvSem l j 1 hl hj (by decide))) w w ⟨⟨rfl, Or.inl rfl⟩, trivial⟩)
/-- Wait at semaphore `s` for one slot of query weights. -/
def waitQ (M : Memref sig .tc .vmem S4x1024x512 .bf16) (off : Fin 3 → ℕ) (h : QIn off) (w : (qSlot M off h).view.WordExact) (s : DmaSem sig) : KProg (F := F) PUnit :=
  Prog.lift (.waitDma2 s (qSlot M off h) (qSlot M off h) w w)
/-- Wait at semaphore `s` for one slot of output weights. -/
def waitO (M : Memref sig .tc .vmem S4x512x1024 .bf16) (off : Fin 3 → ℕ) (h : OIn off) (w : (oSlot M off h).view.WordExact) (s : DmaSem sig) : KProg (F := F) PUnit :=
  Prog.lift (.waitDma2 s (oSlot M off h) (oSlot M off h) w w)

/-- One head: load its keys and values, store the upper and the lower rows of its context. -/
def head (m : IVec S512x512 1) (Q : FVec F S1024x512 .bf16) (p k v : ℕ) (hp : p < 2) (hk : k < 4) (hv : v < 4) (h : ℕ) (hh : h < 4) : KProg (F := F) PUnit := do
  let kr : Vec F S1x1x1024x1x128 .f32 ← Prog.lift (.load kvM (Rect.unit (s := S2x4x1024x4x128) ![p, k, 0, h, 0] S1x1x1024x1x128.size (inbKVh p k h hp hk hh)).toLoadRect (View.loadsAt_vmem h_S1x1x1024x1x128))
  let vr : Vec F S1x1x1024x1x128 .f32 ← Prog.lift (.load kvM (Rect.unit (s := S2x4x1024x4x128) ![p, v, 0, h, 0] S1x1x1024x1x128.size (inbKVh p v h hp hv hh)).toLoadRect (View.loadsAt_vmem h_S1x1x1024x1x128))
  let _ : Vec F S512x128 .bf16 ← Prog.lift (.load ctxM (Rect.unit (s := S1024x512) ![512 * 0, 128 * h] S512x128.size (inbCtx 0 h (by decide) hh)).toLoadRect (View.loadsAt_vmem h_S512x128))
  Prog.lift (.store ctxM (Rect.unit (s := S1024x512) ![512 * 0, 128 * h] S512x128.size (inbCtx 0 h (by decide) hh)) (k0_pay16 m (extractStridedSlice S512x128 ![512 * 0, 128 * h] Q (slCtx 0 h (by decide) hh)) (k0_pay14 kr) vr) Finset.univ (View.stores_vmem h_S512x128 ((Memref.isWhole_whole cc0_scratch5).storeExact_slice rfl _ (packCtx 0 h (by decide) hh)) (fun _ => rfl)) (.inl rfl))
  let _ : Vec F S512x128 .bf16 ← Prog.lift (.load ctxM (Rect.unit (s := S1024x512) ![512 * 1, 128 * h] S512x128.size (inbCtx 1 h (by decide) hh)).toLoadRect (View.loadsAt_vmem h_S512x128))
  Prog.lift (.store ctxM (Rect.unit (s := S1024x512) ![512 * 1, 128 * h] S512x128.size (inbCtx 1 h (by decide) hh)) (k0_pay18 (k0_pay17 m (extractStridedSlice S512x128 ![512 * 1, 128 * h] Q (slCtx 1 h (by decide) hh)) (k0_pay14 kr) vr)) Finset.univ (View.stores_vmem h_S512x128 ((Memref.isWhole_whole cc0_scratch5).storeExact_slice rfl _ (packCtx 1 h (by decide) hh)) (fun _ => rfl)) (.inl rfl))

/-- Four heads on one slot of weights: their context and the slot's output weights. -/
def heads (m : IVec S512x512 1) (qM : Memref sig .tc .vmem S4x1024x512 .bf16) (oM : Memref sig .tc .vmem S4x512x1024 .bf16)
    (qo oo : Fin 3 → ℕ) (hq : QIn qo) (ho : OIn oo) (p k v : ℕ) (hp : p < 2) (hk : k < 4) (hv : v < 4) :
    KProg (F := F) (FVec F S512x1024 .bf16 × Vec F S1024x512 .bf16) := do
  let q : Vec F S1x1024x512 .bf16 ← Prog.lift (.load qM (qRect qo hq).toLoadRect (View.loadsAt_vmem h_S1x1024x512))
  let o : Vec F S1x512x1024 .bf16 ← Prog.lift (.load oM (oRect oo ho).toLoadRect (View.loadsAt_vmem h_S1x512x1024))
  let xb : Vec F S1024x1024 .bf16 ← Prog.lift (.load xbM (Rect.unit (s := S1024x1024) ![0, 0] S1024x1024.size inb_S1024x1024_S1024x1024_0_0).toLoadRect (View.loadsAt_vmem h_S1024x1024))
  head m (k0_pay11 q xb) p k v hp hk hv 0 (by decide)
  head m (k0_pay11 q xb) p k v hp hk hv 1 (by decide)
  head m (k0_pay11 q xb) p k v hp hk hv 2 (by decide)
  head m (k0_pay11 q xb) p k v hp hk hv 3 (by decide)
  let c : Vec F S1024x512 .bf16 ← Prog.lift (.load ctxM (Rect.unit (s := S1024x512) ![0, 0] S1024x512.size inb_S1024x512_S1024x512_0_0).toLoadRect (View.loadsAt_vmem h_S1024x512))
  let _ : Vec F S1x1024x1024 .f32 ← Prog.lift (.load outM (Rect.unit (s := S1x1024x1024) ![0, 0, 0] S1x1024x1024.size inb_S1x1024x1024_S1x1024x1024_0_0_0).toLoadRect (View.loadsAt_vmem h_S1x1024x1024))
  pure (k0_pay10 o, c)

/-- Store a value as the whole result block. -/
def setOut (w : FVec F S1x1024x1024 .f32) : KProg (F := F) PUnit :=
  Prog.lift (.store outM (Rect.unit (s := S1x1024x1024) ![0, 0, 0] S1x1024x1024.size inb_S1x1024x1024_S1x1024x1024_0_0_0) w Finset.univ (View.stores_vmem_bits_univ h_S1x1024x1024 rfl) (.inl rfl))

/-- The first half: its contribution starts the result. -/
def halfFirst (m : IVec S512x512 1) (qM : Memref sig .tc .vmem S4x1024x512 .bf16) (oM : Memref sig .tc .vmem S4x512x1024 .bf16)
    (qo oo : Fin 3 → ℕ) (hq : QIn qo) (ho : OIn oo) (p k v : ℕ) (hp : p < 2) (hk : k < 4) (hv : v < 4) : KProg (F := F) PUnit := do
  let r ← heads m qM oM qo oo hq ho p k v hp hk hv
  setOut (k0_pay47 r.1 r.2)
/-- A later half: its contribution is added to the result. -/
def halfNext (m : IVec S512x512 1) (qM : Memref sig .tc .vmem S4x1024x512 .bf16) (oM : Memref sig .tc .vmem S4x512x1024 .bf16)
    (qo oo : Fin 3 → ℕ) (hq : QIn qo) (ho : OIn oo) (p k v : ℕ) (hp : p < 2) (hk : k < 4) (hv : v < 4) : KProg (F := F) PUnit := do
  let acc : Vec F S1x1024x1024 .f32 ← Prog.lift (.load outM (Rect.unit (s := S1x1024x1024) ![0, 0, 0] S1x1024x1024.size inb_S1x1024x1024_S1x1024x1024_0_0_0).toLoadRect (View.loadsAt_vmem h_S1x1024x1024))
  let r ← heads m qM oM qo oo hq ho p k v hp hk hv
  setOut (k0_pay81 (k0_pay48 acc) r.1 r.2)

/-- Signal both neighbours and wait for their signals. -/
def handshake (l r : Dev nD) : KProg (F := F) PUnit := do
  semSignalWord l barSem 1#32
  semSignalWord r barSem 1#32
  semWaitWord barSem 2#32

/-- Round the input and the device's own weights into the slots of this device. -/
def stageIn (qo oo : Fin 3 → ℕ) (hq : QIn qo) (ho : OIn oo)
    (pq : (qRect qo hq).PackedRows (EltTy.packing .bf16)) (po : (oRect oo ho).PackedRows (EltTy.packing .bf16)) : KProg (F := F) PUnit := do
  let x : Vec F S1x1024x1024 .f32 ← Prog.lift (.load xM (Rect.unit (s := S1x1024x1024) ![0, 0, 0] S1x1024x1024.size inb_S1x1024x1024_S1x1024x1024_0_0_0).toLoadRect (View.loadsAt_vmem h_S1x1024x1024))
  let _ : Vec F S1024x1024 .bf16 ← Prog.lift (.load xbM (Rect.unit (s := S1024x1024) ![0, 0] S1024x1024.size inb_S1024x1024_S1024x1024_0_0).toLoadRect (View.loadsAt_vmem h_S1024x1024))
  Prog.lift (.store xbM (Rect.unit (s := S1024x1024) ![0, 0] S1024x1024.size inb_S1024x1024_S1024x1024_0_0) (k0_pay1 x) Finset.univ (View.stores_vmem h_S1024x1024 ((Memref.isWhole_whole cc0_scratch4).storeExact_slice rfl _ packedbf16_S1024x1024_S1024x1024_0_0) (fun _ => rfl)) (.inl rfl))
  let a : Vec F S1024x512 .f32 ← Prog.lift (.load wqM (Rect.unit (s := S1024x1024) ![0, 0] S1024x512.size inb_S1024x1024_S1024x512_0_0).toLoadRect (View.loadsAt_vmem h_S1024x512))
  let _ : Vec F S1x1024x512 .bf16 ← Prog.lift (.load qaM (qRect qo hq).toLoadRect (View.loadsAt_vmem h_S1x1024x512))
  Prog.lift (.store qaM (qRect qo hq) (k0_pay2 a) Finset.univ (View.stores_vmem h_S1x1024x512 ((Memref.isWhole_whole cc0_scratch0).storeExact_slice rfl _ pq) (fun _ => rfl)) (.inl rfl))
  let b : Vec F S1024x512 .f32 ← Prog.lift (.load wqM (Rect.unit (s := S1024x1024) ![0, 512] S1024x512.size inb_S1024x1024_S1024x512_0_512).toLoadRect (View.loadsAt_vmem h_S1024x512))
  let _ : Vec F S1x1024x512 .bf16 ← Prog.lift (.load qbM (qRect qo hq).toLoadRect (View.loadsAt_vmem h_S1x1024x512))
  Prog.lift (.store qbM (qRect qo hq) (k0_pay3 b) Finset.univ (View.stores_vmem h_S1x1024x512 ((Memref.isWhole_whole cc0_scratch2).storeExact_slice rfl _ pq) (fun _ => rfl)) (.inl rfl))
  let c : Vec F S512x1024 .f32 ← Prog.lift (.load woM (Rect.unit (s := S1024x1024) ![0, 0] S512x1024.size inb_S1024x1024_S512x1024_0_0).toLoadRect (View.loadsAt_vmem h_S512x1024))
  let _ : Vec F S1x512x1024 .bf16 ← Prog.lift (.load oaM (oRect oo ho).toLoadRect (View.loadsAt_vmem h_S1x512x1024))
  Prog.lift (.store oaM (oRect oo ho) (k0_pay4 c) Finset.univ (View.stores_vmem h_S1x512x1024 ((Memref.isWhole_whole cc0_scratch1).storeExact_slice rfl _ po) (fun _ => rfl)) (.inl rfl))
  let d : Vec F S512x1024 .f32 ← Prog.lift (.load woM (Rect.unit (s := S1024x1024) ![512, 0] S512x1024.size inb_S1024x1024_S512x1024_512_0).toLoadRect (View.loadsAt_vmem h_S512x1024))
  let _ : Vec F S1x512x1024 .bf16 ← Prog.lift (.load obM (oRect oo ho).toLoadRect (View.loadsAt_vmem h_S1x512x1024))
  Prog.lift (.store obM (oRect oo ho) (k0_pay5 d) Finset.univ (View.stores_vmem h_S1x512x1024 ((Memref.isWhole_whole cc0_scratch3).storeExact_slice rfl _ po) (fun _ => rfl)) (.inl rfl))

/-- The handshake, the staging, and the sends of the device's own weights. -/
def sendOwn (d0 : Dev nD) : KProg (F := F) PUnit := do
  handshake ⟨k0_dev1 d0, k0_dev1_lt d0⟩ ⟨k0_dev2 d0, k0_dev2_lt d0⟩
  stageIn (k0_off1 d0) (k0_off2 d0) (k0_off1_inb d0) (k0_off2_inb d0) (k0_off1_packedbf16 d0) (k0_off2_packedbf16 d0)
  sendQ qaM (k0_off3 d0) (k0_off3_inb d0) (((Memref.isWhole_whole cc0_scratch0).wordExact_slice rfl _ (k0_off3_wordsbf16 d0)).reshape _ _) ⟨k0_dev3 d0, k0_dev3_lt d0⟩ 0 0 (by decide) (by decide)
  sendO oaM (k0_off4 d0) (k0_off4_inb d0) (((Memref.isWhole_whole cc0_scratch1).wordExact_slice rfl _ (k0_off4_wordsbf16 d0)).reshape _ _) ⟨k0_dev4 d0, k0_dev4_lt d0⟩ 0 0 (by decide) (by decide)
  sendQ qbM (k0_off3 d0) (k0_off3_inb d0) (((Memref.isWhole_whole cc0_scratch2).wordExact_slice rfl _ (k0_off3_wordsbf16 d0)).reshape _ _) ⟨k0_dev5 d0, k0_dev5_lt d0⟩ 1 0 (by decide) (by decide)
  sendO obM (k0_off4 d0) (k0_off4_inb d0) (((Memref.isWhole_whole cc0_scratch3).wordExact_slice rfl _ (k0_off4_wordsbf16 d0)).reshape _ _) ⟨k0_dev6 d0, k0_dev6_lt d0⟩ 1 0 (by decide) (by decide)
  sendQ qbM (k0_off3 d0) (k0_off3_inb d0) (((Memref.isWhole_whole cc0_scratch2).wordExact_slice rfl _ (k0_off3_wordsbf16 d0)).reshape _ _) ⟨k0_dev7 d0, k0_dev7_lt d0⟩ 0 1 (by decide) (by decide)
  sendO obM (k0_off4 d0) (k0_off4_inb d0) (((Memref.isWhole_whole cc0_scratch3).wordExact_slice rfl _ (k0_off4_wordsbf16 d0)).reshape _ _) ⟨k0_dev8 d0, k0_dev8_lt d0⟩ 0 1 (by decide) (by decide)
  sendQ qaM (k0_off3 d0) (k0_off3_inb d0) (((Memref.isWhole_whole cc0_scratch0).wordExact_slice rfl _ (k0_off3_wordsbf16 d0)).reshape _ _) ⟨k0_dev9 d0, k0_dev9_lt d0⟩ 1 1 (by decide) (by decide)
  sendO oaM (k0_off4 d0) (k0_off4_inb d0) (((Memref.isWhole_whole cc0_scratch1).wordExact_slice rfl _ (k0_off4_wordsbf16 d0)).reshape _ _) ⟨k0_dev10 d0, k0_dev10_lt d0⟩ 1 1 (by decide) (by decide)
/-- The two halves on the device's own weights. -/
def stepOwn (d0 : Dev nD) : KProg (F := F) PUnit := do
  kvStarts (k0_off5 d0 0#32) (k0_off5 d0 4#32) (k0_off5_inb d0 0) (k0_off5_inb d0 1) 0 (by decide)
  kvWaits (k0_off5 d0 0#32) (k0_off5 d0 4#32) (k0_off5_inb d0 0) (k0_off5_inb d0 1) 0 (by decide)
  kvStarts (k0_off6 d0 0#32) (k0_off7 d0 1#32 4#32) (k0_off6_inb d0 0) (k0_off7_inb d0 0 1) 1 (by decide)
  halfFirst mask qaM oaM (k0_off1 d0) (k0_off2 d0) (k0_off1_inb d0) (k0_off2_inb d0) 0 0 1 (by decide) (by decide) (by decide)
  halfNext mask qbM obM (k0_off1 d0) (k0_off2 d0) (k0_off1_inb d0) (k0_off2_inb d0) 0 2 3 (by decide) (by decide) (by decide)
/-- The arrivals from both neighbours, passed on to the neighbour on the other side. -/
def passOn (d0 : Dev nD) : KProg (F := F) PUnit := do
  waitQ qaM (k0_off8 d0) (k0_off8_inb d0) (((Memref.isWhole_whole cc0_scratch0).wordExact_slice rfl _ (k0_off8_wordsbf16 d0)).reshape _ _) (rcvSem 0 0 0 (by decide) (by decide) (by decide))
  waitO oaM (k0_off9 d0) (k0_off9_inb d0) (((Memref.isWhole_whole cc0_scratch1).wordExact_slice rfl _ (k0_off9_wordsbf16 d0)).reshape _ _) (rcvSem 0 0 1 (by decide) (by decide) (by decide))
  waitQ qbM (k0_off10 d0 1#32) (k0_off10_inb d0 0) (((Memref.isWhole_whole cc0_scratch2).wordExact_slice rfl _ (k0_off10_wordsbf16 d0 0)).reshape _ _) (rcvSem 1 0 0 (by decide) (by decide) (by decide))
  waitO obM (k0_off11 d0 1#32) (k0_off11_inb d0 0) (((Memref.isWhole_whole cc0_scratch3).wordExact_slice rfl _ (k0_off11_wordsbf16 d0 0)).reshape _ _) (rcvSem 1 0 1 (by decide) (by decide) (by decide))
  sendQ qaM (k0_off8 d0) (k0_off8_inb d0) (((Memref.isWhole_whole cc0_scratch0).wordExact_slice rfl _ (k0_off8_wordsbf16 d0)).reshape _ _) ⟨k0_dev11 d0, k0_dev11_lt d0⟩ 0 2 (by decide) (by decide)
  sendO oaM (k0_off9 d0) (k0_off9_inb d0) (((Memref.isWhole_whole cc0_scratch1).wordExact_slice rfl _ (k0_off9_wordsbf16 d0)).reshape _ _) ⟨k0_dev12 d0, k0_dev12_lt d0⟩ 0 2 (by decide) (by decide)
  sendQ qbM (k0_off10 d0 1#32) (k0_off10_inb d0 0) (((Memref.isWhole_whole cc0_scratch2).wordExact_slice rfl _ (k0_off10_wordsbf16 d0 0)).reshape _ _) ⟨k0_dev13 d0, k0_dev13_lt d0⟩ 1 2 (by decide) (by decide)
  sendO obM (k0_off11 d0 1#32) (k0_off11_inb d0 0) (((Memref.isWhole_whole cc0_scratch3).wordExact_slice rfl _ (k0_off11_wordsbf16 d0 0)).reshape _ _) ⟨k0_dev14 d0, k0_dev14_lt d0⟩ 1 2 (by decide) (by decide)
/-- The first half of the left neighbour's weights and the second half of the right one's. -/
def stepNear (d0 : Dev nD) : KProg (F := F) PUnit := do
  kvWaits (k0_off6 d0 0#32) (k0_off7 d0 1#32 4#32) (k0_off6_inb d0 0) (k0_off7_inb d0 0 1) 1 (by decide)
  kvStarts (k0_off6 d0 4#32) (k0_off7 d0 1#32 0#32) (k0_off6_inb d0 1) (k0_off7_inb d0 0 0) 0 (by decide)
  halfNext mask qaM oaM (k0_off12 d0) (k0_off13 d0) (k0_off12_inb d0) (k0_off13_inb d0) 1 0 1 (by decide) (by decide) (by decide)
  halfNext mask qbM obM (k0_off14 d0 1#32) (k0_off15 d0 1#32) (k0_off14_inb d0 0) (k0_off15_inb d0 0) 1 2 3 (by decide) (by decide) (by decide)
/-- The second half of the left neighbour's weights and the first half of the right one's. -/
def stepFar (d0 : Dev nD) : KProg (F := F) PUnit := do
  waitQ qbM (k0_off8 d0) (k0_off8_inb d0) (((Memref.isWhole_whole cc0_scratch2).wordExact_slice rfl _ (k0_off8_wordsbf16 d0)).reshape _ _) (rcvSem 0 1 0 (by decide) (by decide) (by decide))
  waitO obM (k0_off9 d0) (k0_off9_inb d0) (((Memref.isWhole_whole cc0_scratch3).wordExact_slice rfl _ (k0_off9_wordsbf16 d0)).reshape _ _) (rcvSem 0 1 1 (by decide) (by decide) (by decide))
  waitQ qaM (k0_off10 d0 1#32) (k0_off10_inb d0 0) (((Memref.isWhole_whole cc0_scratch0).wordExact_slice rfl _ (k0_off10_wordsbf16 d0 0)).reshape _ _) (rcvSem 1 1 0 (by decide) (by decide) (by decide))
  waitO oaM (k0_off11 d0 1#32) (k0_off11_inb d0 0) (((Memref.isWhole_whole cc0_scratch1).wordExact_slice rfl _ (k0_off11_wordsbf16 d0 0)).reshape _ _) (rcvSem 1 1 1 (by decide) (by decide) (by decide))
  kvWaits (k0_off6 d0 4#32) (k0_off7 d0 1#32 0#32) (k0_off6_inb d0 1) (k0_off7_inb d0 0 0) 0 (by decide)
  kvStarts (k0_off7 d0 2#32 0#32) (k0_off7 d0 2#32 4#32) (k0_off7_inb d0 1 0) (k0_off7_inb d0 1 1) 1 (by decide)
  halfNext mask qbM obM (k0_off12 d0) (k0_off13 d0) (k0_off12_inb d0) (k0_off13_inb d0) 0 0 1 (by decide) (by decide) (by decide)
  halfNext mask qaM oaM (k0_off14 d0 1#32) (k0_off15 d0 1#32) (k0_off14_inb d0 0) (k0_off15_inb d0 0) 0 2 3 (by decide) (by decide) (by decide)
/-- The two halves on the opposite device's weights. -/
def stepOpp (d0 : Dev nD) : KProg (F := F) PUnit := do
  waitQ qaM (k0_off10 d0 2#32) (k0_off10_inb d0 1) (((Memref.isWhole_whole cc0_scratch0).wordExact_slice rfl _ (k0_off10_wordsbf16 d0 1)).reshape _ _) (rcvSem 0 2 0 (by decide) (by decide) (by decide))
  waitO oaM (k0_off11 d0 2#32) (k0_off11_inb d0 1) (((Memref.isWhole_whole cc0_scratch1).wordExact_slice rfl _ (k0_off11_wordsbf16 d0 1)).reshape _ _) (rcvSem 0 2 1 (by decide) (by decide) (by decide))
  waitQ qbM (k0_off10 d0 2#32) (k0_off10_inb d0 1) (((Memref.isWhole_whole cc0_scratch2).wordExact_slice rfl _ (k0_off10_wordsbf16 d0 1)).reshape _ _) (rcvSem 1 2 0 (by decide) (by decide) (by decide))
  waitO obM (k0_off11 d0 2#32) (k0_off11_inb d0 1) (((Memref.isWhole_whole cc0_scratch3).wordExact_slice rfl _ (k0_off11_wordsbf16 d0 1)).reshape _ _) (rcvSem 1 2 1 (by decide) (by decide) (by decide))
  kvWaits (k0_off7 d0 2#32 0#32) (k0_off7 d0 2#32 4#32) (k0_off7_inb d0 1 0) (k0_off7_inb d0 1 1) 1 (by decide)
  halfNext mask qaM oaM (k0_off14 d0 2#32) (k0_off15 d0 2#32) (k0_off14_inb d0 1) (k0_off15_inb d0 1) 1 0 1 (by decide) (by decide) (by decide)
  halfNext mask qbM obM (k0_off14 d0 2#32) (k0_off15 d0 2#32) (k0_off14_inb d0 1) (k0_off15_inb d0 1) 1 2 3 (by decide) (by decide) (by decide)
/-- The waits until every copy has left. -/
def drain (d0 : Dev nD) : KProg (F := F) PUnit := do
  waitQ qaM (k0_off3 d0) (k0_off3_inb d0) (((Memref.isWhole_whole cc0_scratch0).wordExact_slice rfl _ (k0_off3_wordsbf16 d0)).reshape _ _) (sndSem 0 0 0 (by decide) (by decide) (by decide))
  waitO oaM (k0_off4 d0) (k0_off4_inb d0) (((Memref.isWhole_whole cc0_scratch1).wordExact_slice rfl _ (k0_off4_wordsbf16 d0)).reshape _ _) (sndSem 0 0 1 (by decide) (by decide) (by decide))
  waitQ qbM (k0_off3 d0) (k0_off3_inb d0) (((Memref.isWhole_whole cc0_scratch2).wordExact_slice rfl _ (k0_off3_wordsbf16 d0)).reshape _ _) (sndSem 1 0 0 (by decide) (by decide) (by decide))
  waitO obM (k0_off4 d0) (k0_off4_inb d0) (((Memref.isWhole_whole cc0_scratch3).wordExact_slice rfl _ (k0_off4_wordsbf16 d0)).reshape _ _) (sndSem 1 0 1 (by decide) (by decide) (by decide))
  waitQ qbM (k0_off3 d0) (k0_off3_inb d0) (((Memref.isWhole_whole cc0_scratch2).wordExact_slice rfl _ (k0_off3_wordsbf16 d0)).reshape _ _) (sndSem 0 1 0 (by decide) (by decide) (by decide))
  waitO obM (k0_off4 d0) (k0_off4_inb d0) (((Memref.isWhole_whole cc0_scratch3).wordExact_slice rfl _ (k0_off4_wordsbf16 d0)).reshape _ _) (sndSem 0 1 1 (by decide) (by decide) (by decide))
  waitQ qaM (k0_off3 d0) (k0_off3_inb d0) (((Memref.isWhole_whole cc0_scratch0).wordExact_slice rfl _ (k0_off3_wordsbf16 d0)).reshape _ _) (sndSem 1 1 0 (by decide) (by decide) (by decide))
  waitO oaM (k0_off4 d0) (k0_off4_inb d0) (((Memref.isWhole_whole cc0_scratch1).wordExact_slice rfl _ (k0_off4_wordsbf16 d0)).reshape _ _) (sndSem 1 1 1 (by decide) (by decide) (by decide))
  waitQ qaM (k0_off8 d0) (k0_off8_inb d0) (((Memref.isWhole_whole cc0_scratch0).wordExact_slice rfl _ (k0_off8_wordsbf16 d0)).reshape _ _) (sndSem 0 2 0 (by decide) (by decide) (by decide))
  waitO oaM (k0_off9 d0) (k0_off9_inb d0) (((Memref.isWhole_whole cc0_scratch1).wordExact_slice rfl _ (k0_off9_wordsbf16 d0)).reshape _ _) (sndSem 0 2 1 (by decide) (by decide) (by decide))
  waitQ qbM (k0_off10 d0 1#32) (k0_off10_inb d0 0) (((Memref.isWhole_whole cc0_scratch2).wordExact_slice rfl _ (k0_off10_wordsbf16 d0 0)).reshape _ _) (sndSem 1 2 0 (by decide) (by decide) (by decide))
  waitO obM (k0_off11 d0 1#32) (k0_off11_inb d0 0) (((Memref.isWhole_whole cc0_scratch3).wordExact_slice rfl _ (k0_off11_wordsbf16 d0 0)).reshape _ _) (sndSem 1 2 1 (by decide) (by decide) (by decide))
/-- The whole body of device `d0`, by its phases. -/
def phases (d0 : Dev nD) : KProg (F := F) PUnit := do
  sendOwn d0
  stepOwn d0
  passOn d0
  stepNear d0
  stepFar d0
  stepOpp d0
  drain d0

/-- The whole body: read the device's own index, then its phases. -/
def body : KProg (F := F) PUnit := do
  let d0 : Dev nD ← Prog.lift .deviceId
  phases d0

set_option maxRecDepth 65536 in
/-- The printed body is the sequence of its phases. -/
theorem body_eq (t : Fin cfg0.N) : bodyAt0 (F := F) t = body (F := F) := by
  unfold body phases sendOwn stepOwn passOn stepNear stepFar stepOpp drain
  simp only [bind_assoc]
  rfl

end Cert.KernelIdeal.Attn

end
-- ==== Proof.KernelIdeal.Pts.lean ====
/-
# The buffers' pieces

The four weight buffers are cut into four slots each, one per device whose weights the slot holds; the key/value
buffer into eight blocks. Here are the contents of the weight slots — the same at every device — and the assertions
that a slot or a block is held.
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

/-! ## The ring of devices -/

set_option backward.proofsInPublic true in
/-- The next device on the ring. -/
def right (c : Dev nD) : Dev nD := ⟨(c.val + 1) % 4, Nat.mod_lt _ (by decide)⟩
set_option backward.proofsInPublic true in
/-- The device before on the ring. -/
def left (c : Dev nD) : Dev nD := ⟨(c.val + 3) % 4, Nat.mod_lt _ (by decide)⟩
set_option backward.proofsInPublic true in
/-- The device opposite on the ring. -/
def opp (c : Dev nD) : Dev nD := ⟨(c.val + 2) % 4, Nat.mod_lt _ (by decide)⟩

theorem left_right (c : Dev nD) : left (right c) = c := by revert c; decide
theorem right_left (c : Dev nD) : right (left c) = c := by revert c; decide
theorem left_left (c : Dev nD) : left (left c) = opp c := by revert c; decide
theorem right_right (c : Dev nD) : right (right c) = opp c := by revert c; decide
theorem left_ne (c : Dev nD) : left c ≠ c := by revert c; decide
theorem right_ne (c : Dev nD) : right c ≠ c := by revert c; decide
theorem left_ne_right (c : Dev nD) : left c ≠ right c := by revert c; decide

/-! ## Resources -/

abbrev UB : Type := URounds (GSem nD τ sig) Bool

/-- The ghost state: the pipeline's transfers, the kernel's own cells, and its local copies. -/
abbrev UU : Type := UR sig nD τ × (UB × Counters)

local notation "𝕄" => MT nD τ sig Unit (Elt F) ℕ UU ℕ

/-! ## The blocks a device starts from -/

variable (m : (ℓ : Loc nD τ sig) → Buf (Elt F) ℓ) (ρ : Dev nD → PrngReg)

/-- The initial state: any memory, semaphores at zero, any registers. -/
def s₀ : MemSt nD τ sig (Elt F) := ⟨m, fun _ => 0, ρ⟩

/-- Device `c`'s block of the input, as staged. -/
def xstg (c : Dev nD) : cc0_stg0_0.ty.Contents (Elt F) :=
  (win0_0.blk t0_0).view.read (Elt F) (m ((c : Thread nD τ).loc main_arg0))
/-- Device `c`'s columns of the query weights, as staged. -/
def wqstg (c : Dev nD) : cc0_stg1_0.ty.Contents (Elt F) :=
  (win0_1.blk t0_0).view.read (Elt F) (m ((c : Thread nD τ).loc main_arg1))
/-- Device `c`'s rows of the output weights, as staged. -/
def wostg (c : Dev nD) : cc0_stg2_0.ty.Contents (Elt F) :=
  (win0_2.blk t0_0).view.read (Elt F) (m ((c : Thread nD τ).loc main_arg4))

/-- The rounded input of device `c`. -/
def xbOf (c : Dev nD) : FVec F S1024x1024 .bf16 := k0_pay1 (xstg m c)
/-- The first 512 query columns of device `s`. -/
def wqLo (s : Dev nD) : Vec F S1024x512 .f32 :=
  (wqM.access (Rect.unit (s := S1024x1024) ![0, 0] S1024x512.size inb_S1024x1024_S1024x512_0_0)).read (Elt F) (wqstg m s)
/-- The last 512 query columns of device `s`. -/
def wqHi (s : Dev nD) : Vec F S1024x512 .f32 :=
  (wqM.access (Rect.unit (s := S1024x1024) ![0, 512] S1024x512.size inb_S1024x1024_S1024x512_0_512)).read (Elt F) (wqstg m s)
/-- The first 512 output rows of device `s`. -/
def woLo (s : Dev nD) : Vec F S512x1024 .f32 :=
  (woM.access (Rect.unit (s := S1024x1024) ![0, 0] S512x1024.size inb_S1024x1024_S512x1024_0_0)).read (Elt F) (wostg m s)
/-- The last 512 output rows of device `s`. -/
def woHi (s : Dev nD) : Vec F S512x1024 .f32 :=
  (woM.access (Rect.unit (s := S1024x1024) ![512, 0] S512x1024.size inb_S1024x1024_S512x1024_512_0)).read (Elt F) (wostg m s)

/-! ## What the slots hold -/

/-- The index inside a slot of query weights. -/
def qIx (i : S4x1024x512.Idx) : S1x1024x512.Idx := fun a => match a with
  | ⟨0, _⟩ => (0 : Fin 1)
  | ⟨1, _⟩ => (i 1 : Fin 1024)
  | ⟨2, _⟩ => (i 2 : Fin 512)
/-- The index inside a slot of output weights. -/
def oIx (i : S4x512x1024.Idx) : S1x512x1024.Idx := fun a => match a with
  | ⟨0, _⟩ => (0 : Fin 1)
  | ⟨1, _⟩ => (i 1 : Fin 512)
  | ⟨2, _⟩ => (i 2 : Fin 1024)

/-- Slot `s` of the first query buffer holds the first half of device `s`'s query weights, rounded. -/
def gqa : S4x1024x512.Idx → Elt F .bf16 := fun i => k0_pay2 (wqLo m (i 0)) (qIx i)
/-- Slot `s` of the second query buffer holds the second half. -/
def gqb : S4x1024x512.Idx → Elt F .bf16 := fun i => k0_pay3 (wqHi m (i 0)) (qIx i)
/-- Slot `s` of the first output buffer holds the first half of device `s`'s output weights, rounded. -/
def goa : S4x512x1024.Idx → Elt F .bf16 := fun i => k0_pay4 (woLo m (i 0)) (oIx i)
/-- Slot `s` of the second output buffer holds the second half. -/
def gob : S4x512x1024.Idx → Elt F .bf16 := fun i => k0_pay5 (woHi m (i 0)) (oIx i)

theorem qIn (s : Dev nD) : QIn ![s.val, 0, 0] := by revert s; decide
theorem oIn (s : Dev nD) : OIn ![s.val, 0, 0] := by revert s; decide

theorem emb_q0 {off : Fin 3 → ℕ} (h : QIn off) (s : Dev nD) (e : off = ![s.val, 0, 0]) (x : S1x1024x512.Idx) :
    ((qRect off h).emb x 0 : Fin 4) = s ∧ qIx ((qRect off h).emb x) = x := by
  subst e
  have h0 : (show Fin 1 from x 0) = 0 := Subsingleton.elim (α := Fin 1) _ _
  refine ⟨Fin.ext ?_, funext fun a => ?_⟩
  · show s.val + 1 * (x 0 : Fin 1).val = s.val
    have := congrArg Fin.val h0
    change (x 0 : Fin 1).val = 0 at this
    omega
  · match a with
    | ⟨0, _⟩ => exact h0.symm
    | ⟨1, _⟩ => exact Fin.ext (show 0 + 1 * (x 1 : Fin 1024).val = (x 1 : Fin 1024).val by omega)
    | ⟨2, _⟩ => exact Fin.ext (show 0 + 1 * (x 2 : Fin 512).val = (x 2 : Fin 512).val by omega)

theorem emb_o0 {off : Fin 3 → ℕ} (h : OIn off) (s : Dev nD) (e : off = ![s.val, 0, 0]) (x : S1x512x1024.Idx) :
    ((oRect off h).emb x 0 : Fin 4) = s ∧ oIx ((oRect off h).emb x) = x := by
  subst e
  have h0 : (show Fin 1 from x 0) = 0 := Subsingleton.elim (α := Fin 1) _ _
  refine ⟨Fin.ext ?_, funext fun a => ?_⟩
  · show s.val + 1 * (x 0 : Fin 1).val = s.val
    have := congrArg Fin.val h0
    change (x 0 : Fin 1).val = 0 at this
    omega
  · match a with
    | ⟨0, _⟩ => exact h0.symm
    | ⟨1, _⟩ => exact Fin.ext (show 0 + 1 * (x 1 : Fin 512).val = (x 1 : Fin 512).val by omega)
    | ⟨2, _⟩ => exact Fin.ext (show 0 + 1 * (x 2 : Fin 1024).val = (x 2 : Fin 1024).val by omega)

/-- A load of slot `s` of the first query buffer. -/
theorem read_qa {off : Fin 3 → ℕ} (h : QIn off) (s : Dev nD) (e : off = ![s.val, 0, 0]) :
    (qaM.access (qRect off h)).read (Elt F) (gqa m) = k0_pay2 (wqLo m s) := by
  funext x
  show k0_pay2 (wqLo m ((qRect off h).emb x 0)) (qIx ((qRect off h).emb x)) = _
  rw [(emb_q0 h s e x).1, (emb_q0 h s e x).2]
/-- A load of slot `s` of the second query buffer. -/
theorem read_qb {off : Fin 3 → ℕ} (h : QIn off) (s : Dev nD) (e : off = ![s.val, 0, 0]) :
    (qbM.access (qRect off h)).read (Elt F) (gqb m) = k0_pay3 (wqHi m s) := by
  funext x
  show k0_pay3 (wqHi m ((qRect off h).emb x 0)) (qIx ((qRect off h).emb x)) = _
  rw [(emb_q0 h s e x).1, (emb_q0 h s e x).2]
/-- A load of slot `s` of the first output buffer. -/
theorem read_oa {off : Fin 3 → ℕ} (h : OIn off) (s : Dev nD) (e : off = ![s.val, 0, 0]) :
    (oaM.access (oRect off h)).read (Elt F) (goa m) = k0_pay4 (woLo m s) := by
  funext x
  show k0_pay4 (woLo m ((oRect off h).emb x 0)) (oIx ((oRect off h).emb x)) = _
  rw [(emb_o0 h s e x).1, (emb_o0 h s e x).2]
/-- A load of slot `s` of the second output buffer. -/
theorem read_ob {off : Fin 3 → ℕ} (h : OIn off) (s : Dev nD) (e : off = ![s.val, 0, 0]) :
    (obM.access (oRect off h)).read (Elt F) (gob m) = k0_pay5 (woHi m s) := by
  funext x
  show k0_pay5 (woHi m ((oRect off h).emb x 0)) (oIx ((oRect off h).emb x)) = _
  rw [(emb_o0 h s e x).1, (emb_o0 h s e x).2]

/-! ## Slots held -/

/-- Slot `off` of a query buffer at device `c` holds `f`. -/
def qPt (M : Memref sig .tc .vmem S4x1024x512 .bf16) (c s : Dev nD) (q : PosShare TreeShare)
    (f : M.view.ty.Contents (Elt F)) : sProp 𝕄 :=
  M.view.loc (c : Thread nD τ) ↦[(qSlot M ![s.val, 0, 0] (qIn s)).view.set]{q} f
/-- Slot `off` of an output buffer at device `c` holds `f`. -/
def oPt (M : Memref sig .tc .vmem S4x512x1024 .bf16) (c s : Dev nD) (q : PosShare TreeShare)
    (f : M.view.ty.Contents (Elt F)) : sProp 𝕄 :=
  M.view.loc (c : Thread nD τ) ↦[(oSlot M ![s.val, 0, 0] (oIn s)).view.set]{q} f
/-- A slot of a query buffer is held with some contents. -/
def qAny (M : Memref sig .tc .vmem S4x1024x512 .bf16) (c s : Dev nD) : sProp 𝕄 := iprop(∃ f, qPt M c s fullShare f)
/-- A slot of an output buffer is held with some contents. -/
def oAny (M : Memref sig .tc .vmem S4x512x1024 .bf16) (c s : Dev nD) : sProp 𝕄 := iprop(∃ f, oPt M c s fullShare f)

instance qPt_storable (M) (c s q) (f) : Storable (upEmb : UEmb _ 𝕄) (qPt (F := F) M c s q f) := by unfold qPt; infer_instance
instance oPt_storable (M) (c s q) (f) : Storable (upEmb : UEmb _ 𝕄) (oPt (F := F) M c s q f) := by unfold oPt; infer_instance
instance qAny_storable (M) (c s) : Storable (upEmb : UEmb _ 𝕄) (qAny (F := F) M c s) := by unfold qAny; infer_instance
instance oAny_storable (M) (c s) : Storable (upEmb : UEmb _ 𝕄) (oAny (F := F) M c s) := by unfold oAny; infer_instance

theorem qSlot_set (M : Memref sig .tc .vmem S4x1024x512 .bf16) (s : Dev nD) :
    (qSlot M ![s.val, 0, 0] (qIn s)).view.set = (qRect ![s.val, 0, 0] (qIn s)).set.map M.view.emb := by
  exact (View.set_reshape _ _).trans (View.set_slice _ _)
theorem oSlot_set (M : Memref sig .tc .vmem S4x512x1024 .bf16) (s : Dev nD) :
    (oSlot M ![s.val, 0, 0] (oIn s)).view.set = (oRect ![s.val, 0, 0] (oIn s)).set.map M.view.emb := by
  exact (View.set_reshape _ _).trans (View.set_slice _ _)

theorem q_mem (s : Dev nD) (i : S4x1024x512.Idx) : i ∈ (qRect ![s.val, 0, 0] (qIn s)).set ↔ (i 0 : Fin 4) = s := by
  rw [Rect.mem_set_unit]
  refine ⟨fun h => Fin.ext ?_, fun h a => ?_⟩
  · have := h 0
    change s.val ≤ (i 0 : Fin 4).val ∧ (i 0 : Fin 4).val < s.val + 1 at this
    omega
  · have h1 : (i 1 : Fin 1024).val < 1024 := Fin.isLt _
    have h2 : (i 2 : Fin 512).val < 512 := Fin.isLt _
    match a with
    | ⟨0, _⟩ => exact h ▸ (show (i 0 : Fin 4).val ≤ (i 0 : Fin 4).val ∧ (i 0 : Fin 4).val < (i 0 : Fin 4).val + 1 by omega)
    | ⟨1, _⟩ => exact (show 0 ≤ (i 1 : Fin 1024).val ∧ (i 1 : Fin 1024).val < 0 + 1024 by omega)
    | ⟨2, _⟩ => exact (show 0 ≤ (i 2 : Fin 512).val ∧ (i 2 : Fin 512).val < 0 + 512 by omega)
theorem o_mem (s : Dev nD) (i : S4x512x1024.Idx) : i ∈ (oRect ![s.val, 0, 0] (oIn s)).set ↔ (i 0 : Fin 4) = s := by
  rw [Rect.mem_set_unit]
  refine ⟨fun h => Fin.ext ?_, fun h a => ?_⟩
  · have := h 0
    change s.val ≤ (i 0 : Fin 4).val ∧ (i 0 : Fin 4).val < s.val + 1 at this
    omega
  · have h1 : (i 1 : Fin 512).val < 512 := Fin.isLt _
    have h2 : (i 2 : Fin 1024).val < 1024 := Fin.isLt _
    match a with
    | ⟨0, _⟩ => exact h ▸ (show (i 0 : Fin 4).val ≤ (i 0 : Fin 4).val ∧ (i 0 : Fin 4).val < (i 0 : Fin 4).val + 1 by omega)
    | ⟨1, _⟩ => exact (show 0 ≤ (i 1 : Fin 512).val ∧ (i 1 : Fin 512).val < 0 + 512 by omega)
    | ⟨2, _⟩ => exact (show 0 ≤ (i 2 : Fin 1024).val ∧ (i 2 : Fin 1024).val < 0 + 1024 by omega)

/-- A query buffer held whole is its four slots held. -/
theorem q_split (M : Memref sig .tc .vmem S4x1024x512 .bf16) (c : Dev nD) (q : PosShare TreeShare)
    (f : M.view.ty.Contents (Elt F)) :
    (M.view.loc (c : Thread nD τ) ↦[M.view.set]{q} f : sProp 𝕄) = BI.bigSep Finset.univ fun s : Dev nD => qPt M c s q f := by
  have hc : M.view.set = Finset.univ.biUnion fun s : Dev nD => (qSlot M ![s.val, 0, 0] (qIn s)).view.set := by
    ext i
    rw [Finset.mem_biUnion]
    refine ⟨fun hi => ?_, fun ⟨s, _, hs⟩ => ?_⟩
    · obtain ⟨x, _, rfl⟩ := Finset.mem_map.mp hi
      exact ⟨(x 0 : Fin 4), Finset.mem_univ _, (qSlot_set M (x 0 : Fin 4)).symm ▸ Finset.mem_map_of_mem _ ((q_mem (x 0 : Fin 4) x).mpr rfl)⟩
    · rw [qSlot_set] at hs
      obtain ⟨x, _, rfl⟩ := Finset.mem_map.mp hs
      exact Finset.mem_map_of_mem _ (Finset.mem_univ _)
  rw [hc, pointsTo_biUnion]
  · rfl
  · intro s _ s' _ hne
    show Disjoint (qSlot M ![s.val, 0, 0] (qIn s)).view.set (qSlot M ![s'.val, 0, 0] (qIn s')).view.set
    rw [qSlot_set, qSlot_set, Finset.disjoint_map, Finset.disjoint_left]
    intro i hi hi'
    exact hne (((q_mem _ _).mp hi).symm.trans ((q_mem _ _).mp hi'))
/-- An output buffer held whole is its four slots held. -/
theorem o_split (M : Memref sig .tc .vmem S4x512x1024 .bf16) (c : Dev nD) (q : PosShare TreeShare)
    (f : M.view.ty.Contents (Elt F)) :
    (M.view.loc (c : Thread nD τ) ↦[M.view.set]{q} f : sProp 𝕄) = BI.bigSep Finset.univ fun s : Dev nD => oPt M c s q f := by
  have hc : M.view.set = Finset.univ.biUnion fun s : Dev nD => (oSlot M ![s.val, 0, 0] (oIn s)).view.set := by
    ext i
    rw [Finset.mem_biUnion]
    refine ⟨fun hi => ?_, fun ⟨s, _, hs⟩ => ?_⟩
    · obtain ⟨x, _, rfl⟩ := Finset.mem_map.mp hi
      exact ⟨(x 0 : Fin 4), Finset.mem_univ _, (oSlot_set M (x 0 : Fin 4)).symm ▸ Finset.mem_map_of_mem _ ((o_mem (x 0 : Fin 4) x).mpr rfl)⟩
    · rw [oSlot_set] at hs
      obtain ⟨x, _, rfl⟩ := Finset.mem_map.mp hs
      exact Finset.mem_map_of_mem _ (Finset.mem_univ _)
  rw [hc, pointsTo_biUnion]
  · rfl
  · intro s _ s' _ hne
    show Disjoint (oSlot M ![s.val, 0, 0] (oIn s)).view.set (oSlot M ![s'.val, 0, 0] (oIn s')).view.set
    rw [oSlot_set, oSlot_set, Finset.disjoint_map, Finset.disjoint_left]
    intro i hi hi'
    exact hne (((o_mem _ _).mp hi).symm.trans ((o_mem _ _).mp hi'))

/-- The devices, as seen from device `c`: itself, its left, its right, the opposite one. -/
theorem around (c : Dev nD) (P : Dev nD → sProp 𝕄) :
    BI.bigSep Finset.univ P = iprop(P c ∗ P (left c) ∗ P (right c) ∗ P (opp c)) := by
  rw [bigSep_univ_eq_bigSepL (l := [c, left c, right c, opp c]) (by revert c; decide) (by revert c; decide) P]
  simp only [BI.bigSepL]; rfl

end Cert.KernelIdeal.Attn

end
-- ==== Proof.KernelIdeal.Sched.lean ====
/-
# The protocol

Twelve copies leave each device: `n = 6·l + 2·j + t` with direction `l` (0 to the right, 1 to the left), step `j` and
`t` (0 query weights, 1 output weights). Each has a send and a receive semaphore of its own, used once. The barrier
semaphore receives one unit from each neighbour: with it the neighbour hands over the slots this device will write.
-/
module

public import proofs.«01_k».proof.Proof.KernelIdeal.Pts

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

/-! ## Embeddings of the ghost state -/

/-- The pipeline's part. -/
abbrev EP : Emb (UR sig nD τ) (MT nD τ sig Unit (Elt F) ℕ UU ℕ) := embL
/-- The part of the kernel's own cells. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The copies between devices -/

/-- Where copy `n` of device `c` goes. -/
def dst (n : Fin 12) (c : Dev nD) : Dev nD := if n.val < 6 then right c else left c
/-- Where copy `n` arriving at device `c` comes from. -/
def src (n : Fin 12) (c : Dev nD) : Dev nD := if n.val < 6 then left c else right c
/-- The slot copy `n` of device `c` reads (and writes at its destination). -/
def sndSlot (n : Fin 12) (c : Dev nD) : Dev nD := if n.val % 6 < 4 then c else if n.val < 6 then left c else right c
/-- The slot copy `n` arriving at device `c` writes. -/
def rcvSlot (n : Fin 12) (c : Dev nD) : Dev nD := sndSlot n (src n c)

theorem dst_src (n : Fin 12) (c : Dev nD) : dst n (src n c) = c := by revert n c; decide
theorem src_dst (n : Fin 12) (c : Dev nD) : src n (dst n c) = c := by revert n c; decide
theorem rcvSlot_dst (n : Fin 12) (c : Dev nD) : rcvSlot n (dst n c) = sndSlot n c := by unfold rcvSlot; rw [src_dst]

/-- The send semaphore of copy `n`. -/
def sndS (n : Fin 12) : DmaSem sig := ⟨12 + n.val, by have := n.isLt; show 12 + n.val < 36; omega⟩
/-- The receive semaphore of copy `n`. -/
def rcvS (n : Fin 12) : DmaSem sig := ⟨24 + n.val, by have := n.isLt; show 24 + n.val < 36; omega⟩

abbrev sndCell (c : Dev nD) (n : Fin 12) : GSem nD τ sig := ((c : Thread nD τ), .dma (sndS n))
abbrev rcvCell (c : Dev nD) (n : Fin 12) : GSem nD τ sig := ((c : Thread nD τ), .dma (rcvS n))
abbrev barCell (c : Dev nD) : GSem nD τ sig := ((c : Thread nD τ), .reg barSem)

/-- The credit of one slot of query weights. -/
def Nq : ℕ := (qSlot qaM ![0, 0, 0] (qIn 0)).view.dmaCredit
/-- The credit of one slot of output weights. -/
def No : ℕ := (oSlot oaM ![0, 0, 0] (oIn 0)).view.dmaCredit
theorem Nq_pos : 0 < Nq := View.dmaCredit_pos _ (by decide)
theorem No_pos : 0 < No := View.dmaCredit_pos _ (by decide)
/-- The credit of copy `n`. -/
def Nc (n : ℕ) : ℕ := if n % 2 = 0 then Nq else No
theorem Nc_pos (n : ℕ) : 0 < Nc n := by unfold Nc; split; exacts [Nq_pos, No_pos]

/-- The share of its source that copy `n` takes along: three copies may read one slot, which is also loaded. -/
def shareOf (n : Fin 12) : PosShare TreeShare := if n.val % 6 / 2 = 1 then fullShare.right.left else fullShare.left

variable (m : (ℓ : Loc nD τ sig) → Buf (Elt F) ℓ)

/-- Slot `s` of copy `n`'s buffer at device `c` holds device `s`'s weights. -/
def slotPay (n : ℕ) (c s : Dev nD) (q : PosShare TreeShare) : sProp 𝕄 :=
  match n % 4 with
  | 0 => qPt qaM c s q (gqa m)
  | 1 => oPt oaM c s q (goa m)
  | 2 => qPt qbM c s q (gqb m)
  | _ => oPt obM c s q (gob m)
/-- Slot `s` of copy `n`'s buffer at device `c` is held with some contents. -/
def slotAny (n : ℕ) (c s : Dev nD) : sProp 𝕄 :=
  match n % 4 with
  | 0 => qAny qaM c s
  | 1 => oAny oaM c s
  | 2 => qAny qbM c s
  | _ => oAny obM c s

instance slotPay_storable (n c s q) : Storable (upEmb : UEmb _ 𝕄) (slotPay (F := F) m n c s q) := by
  unfold slotPay; split <;> infer_instance
instance slotAny_storable (n c s) : Storable (upEmb : UEmb _ 𝕄) (slotAny (F := F) n c s) := by
  unfold slotAny; split <;> infer_instance

/-- What the right neighbour's signal hands device `c`: the six slots there that `c` writes. -/
def barR (c : Dev nD) : sProp 𝕄 :=
  iprop(slotAny 0 (right c) (sndSlot 0 c) ∗ slotAny 1 (right c) (sndSlot 1 c) ∗ slotAny 2 (right c) (sndSlot 2 c)
    ∗ slotAny 3 (right c) (sndSlot 3 c) ∗ slotAny 4 (right c) (sndSlot 4 c) ∗ slotAny 5 (right c) (sndSlot 5 c))
/-- What the left neighbour's signal hands device `c`. -/
def barL (c : Dev nD) : sProp 𝕄 :=
  iprop(slotAny 6 (left c) (sndSlot 6 c) ∗ slotAny 7 (left c) (sndSlot 7 c) ∗ slotAny 8 (left c) (sndSlot 8 c)
    ∗ slotAny 9 (left c) (sndSlot 9 c) ∗ slotAny 10 (left c) (sndSlot 10 c) ∗ slotAny 11 (left c) (sndSlot 11 c))

/-- What a semaphore's units hand to device `c`. -/
def semPay (c : Dev nD) (sm : SemLoc sig) (d : Bool) : sProp 𝕄 :=
  match sm with
  | .reg _ => if d then barR c else barL c
  | .dma k =>
    if h : 24 ≤ k.val then slotPay m (k.val - 24) c (rcvSlot ⟨k.val - 24, by have : k.val < 36 := k.isLt; omega⟩ c) fullShare
    else if h' : 12 ≤ k.val then
      slotPay m (k.val - 12) c (sndSlot ⟨k.val - 12, by omega⟩ c) (shareOf ⟨k.val - 12, by omega⟩)
    else iprop(emp)

instance semPay_storable (c sm d) : Storable (upEmb : UEmb _ 𝕄) (semPay (F := F) m c sm d) := by
  unfold semPay barR barL; (repeat' split) <;> infer_instance

/-- The duties at a semaphore. -/
def semDuties (sm : SemLoc sig) : Finset Bool :=
  match sm with
  | .reg _ => Finset.univ
  | .dma k => if 12 ≤ k.val then {false} else ∅

/-- The units of a duty at a semaphore. -/
def semAmount (sm : SemLoc sig) : ℕ :=
  match sm with
  | .reg _ => 1
  | .dma k => Nc k.val

/-- Every cell has one round. -/
def Rd : Rounds.Schedule (GSem nD τ sig) Bool 𝕄 where
  duties g r := if r = 0 ∧ g.1.2 = .tc then semDuties g.2 else ∅
  unitless _ := False
  amount g _ _ := semAmount g.2
  payload g _ d := semPay m g.1.1 g.2 d
  amount_pos g _ _ _ := by
    unfold semAmount; split
    · exact Nat.one_pos
    · exact Nc_pos _

instance Rd_payload_storable (g : GSem nD τ sig) (r : ℕ) (d : Bool) :
    BI.Storable (upEmb : UEmb _ 𝕄) ((Rd (F := F) m).payload g r d) := by
  show BI.Storable upEmb (semPay m g.1.1 g.2 d); infer_instance

section Tables
variable (c : Dev nD) (n : Fin 12)

theorem duties_bar : (Rd (F := F) m).duties (barCell c) 0 = Finset.univ := by dsimp only [Rd]; exact if_pos ⟨rfl, rfl⟩
theorem duties_snd : (Rd (F := F) m).duties (sndCell c n) 0 = {false} := by
  dsimp only [Rd]; rw [if_pos ⟨rfl, rfl⟩]; exact if_pos (show 12 ≤ 12 + n.val by omega)
theorem duties_rcv : (Rd (F := F) m).duties (rcvCell c n) 0 = {false} := by
  dsimp only [Rd]; rw [if_pos ⟨rfl, rfl⟩]; exact if_pos (show 12 ≤ 24 + n.val by omega)
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_snd (d : Bool) : (Rd (F := F) m).amount (sndCell c n) 0 d = Nc n := by
  show Nc (12 + n.val) = Nc n.val; unfold Nc; rw [show (12 + n.val) % 2 = n.val % 2 by omega]
theorem amount_rcv (d : Bool) : (Rd (F := F) m).amount (rcvCell c n) 0 d = Nc n := by
  show Nc (24 + n.val) = Nc n.val; unfold Nc; rw [show (24 + n.val) % 2 = n.val % 2 by omega]

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_snd : (Rd (F := F) m).expect (sndCell c n) 0 = Nc n := by
  unfold Schedule.expect Schedule.amountOf; rw [duties_snd, Finset.sum_singleton, amount_snd]
theorem expect_rcv : (Rd (F := F) m).expect (rcvCell c n) 0 = Nc n := by
  unfold Schedule.expect Schedule.amountOf; rw [duties_rcv, Finset.sum_singleton, amount_rcv]

theorem payload_bar_true : (Rd (F := F) m).payload (barCell c) 0 true = barR c := rfl
theorem payload_bar_false : (Rd (F := F) m).payload (barCell c) 0 false = barL c := rfl
theorem payload_snd (d : Bool) : (Rd (F := F) m).payload (sndCell c n) 0 d = slotPay m n c (sndSlot n c) (shareOf n) := by
  show semPay m c (.dma (sndS n)) d = _
  have e : (sndS n).val - 12 = n.val := show 12 + n.val - 12 = n.val by omega
  have e' : ∀ h, (⟨(sndS n).val - 12, h⟩ : Fin 12) = n := fun h => Fin.ext e
  dsimp only [semPay]
  rw [dif_neg (show ¬ 24 ≤ (sndS n).val from (show ¬ 24 ≤ 12 + n.val by omega)), dif_pos (show 12 ≤ (sndS n).val from (show 12 ≤ 12 + n.val by omega)), e', e]
theorem payload_rcv (d : Bool) : (Rd (F := F) m).payload (rcvCell c n) 0 d = slotPay m n c (rcvSlot n c) fullShare := by
  show semPay m c (.dma (rcvS n)) d = _
  have e : (rcvS n).val - 24 = n.val := show 24 + n.val - 24 = n.val by omega
  have e' : ∀ h, (⟨(rcvS n).val - 24, h⟩ : Fin 12) = n := fun h => Fin.ext e
  dsimp only [semPay]
  rw [dif_pos (show 24 ≤ (rcvS n).val from (show 24 ≤ 24 + n.val by omega)), e', e]

theorem rest_bar : bigSep ((Rd (F := F) m).duties (barCell c) 0 \ ∅) (fun d => (Rd (F := F) m).payload (barCell c) 0 d) = iprop(barL c ∗ barR c) := by
  rw [Finset.sdiff_empty, duties_bar, bigSep_univ_eq_bigSepL [false, true] (by decide) (by decide), bigSepL_cons_cons, bigSepL_singleton,
    payload_bar_false, payload_bar_true]
  rfl
theorem rest_snd : bigSep ((Rd (F := F) m).duties (sndCell c n) 0 \ ∅) (fun d => (Rd (F := F) m).payload (sndCell c n) 0 d)
    = slotPay m n c (sndSlot n c) (shareOf n) := by
  rw [Finset.sdiff_empty, duties_snd, bigSep_singleton, payload_snd]
theorem rest_rcv : bigSep ((Rd (F := F) m).duties (rcvCell c n) 0 \ ∅) (fun d => (Rd (F := F) m).payload (rcvCell c n) 0 d)
    = slotPay m n c (rcvSlot n c) fullShare := by
  rw [Finset.sdiff_empty, duties_rcv, bigSep_singleton, payload_rcv]

end Tables

/-! ## What each device owes -/

/-- The credits of the copies `ns`, the first one outermost. -/
def owesL (c : Dev nD) : List (Fin 12) → CellTallies nD τ sig Unit
  | [] => 0
  | n :: ns => owesL c ns + tallyAt (rcvCell (dst n c) n) () (Nc n)

/-- The copies in the order the kernel sends them: first those of its own weights, then those passed on. -/
abbrev seqA : List (Fin 12) := [4, 5, 10, 11]
abbrev seqL : List (Fin 12) := [0, 1, 6, 7, 2, 3, 8, 9, 4, 5, 10, 11]

/-- At launch a device owes a unit to each neighbour and the credit of its twelve copies. -/
def O₁ (c : Dev nD) : CellTallies nD τ sig Unit := owesL c seqL + tallyAt (barCell (right c)) () 1
def O₀ (c : Dev nD) : CellTallies nD τ sig Unit := O₁ c + tallyAt (barCell (left c)) () 1

def L (g : GSem nD τ sig) : Finset Unit := if g.1.2 = .tc then {()} else ∅
/-- The levels: barrier 1, receives of first copies 2, of passed-on copies 3, all others 0. -/
def semLv (sm : SemLoc sig) : ℕ :=
  match sm with
  | .reg _ => 1
  | .dma k => if k.val < 24 then 0 else if (k.val - 24) % 6 < 4 then 2 else 3
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem owesL_pos {c : Dev nD} {ns : List (Fin 12)} {g : GSem nD τ sig} {u : Unit} (h : 0 < owesL c ns g u) :
    ∃ n ∈ ns, g = rcvCell (dst n c) n := by
  induction ns with
  | nil => exact absurd h (by simp [owesL])
  | cons n ns ih =>
    rw [owesL, Pi.add_apply, Finsupp.add_apply] at h
    rcases Nat.add_pos_iff_pos_or_pos.mp h with h | h
    · obtain ⟨k, hk, e⟩ := ih h
      exact ⟨k, List.mem_cons_of_mem _ hk, e⟩
    · rw [tallyAt_apply] at h
      by_cases e : g = rcvCell (dst n c) n ∧ u = ()
      · exact ⟨n, List.mem_cons_self, e.1⟩
      · rw [if_neg e] at h; exact absurd h (Nat.lt_irrefl 0)

theorem O₀_pos {c : Dev nD} {g : GSem nD τ sig} {u : Unit} (h : 0 < O₀ c g u) :
    (∃ n ∈ seqL, g = rcvCell (dst n c) n) ∨ g = barCell (right c) ∨ g = barCell (left c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  exact hn.1 (owesL_pos (u := u) (by omega))

/-- A wait at a level below the receives of all copies still owed. -/
theorem mayWait_owesL (c : Dev nD) (sm : SemLoc sig) (ns : List (Fin 12)) (h : ∀ n ∈ ns, semLv sm < semLv (.dma (rcvS n))) :
    (levAts L lv : sProp 𝕄) ⊢ MayWait (c : Thread nD τ) sm () (owesL c ns) :=
  Pipeline.mayWait_of_levAts (by rw [L_tc]; exact Finset.mem_singleton_self _) fun g u hg => by
    obtain ⟨n, hn, rfl⟩ := owesL_pos hg
    exact ⟨by rw [L_tc]; exact Finset.mem_singleton_self _, h n hn⟩

/-- A wait of the staging while a device owes all it owes at launch, or nothing. -/
theorem mayWait_stage (c : Dev nD) (q : DmaSem sig) (hq : q.val < 24) (O : CellTallies nD τ sig Unit) (hO : O = O₀ c ∨ O = 0) :
    (levAts L lv : sProp 𝕄) ⊢ MayWait (c : Thread nD τ) (.dma q) () O := by
  have hz : semLv (.dma q) = 0 := if_pos hq
  rcases hO with rfl | rfl
  · refine Pipeline.mayWait_of_levAts (by rw [L_tc]; exact Finset.mem_singleton_self _) fun g u hg => ?_
    rcases O₀_pos hg with ⟨n, _, rfl⟩ | rfl | rfl
    · refine ⟨by rw [L_tc]; exact Finset.mem_singleton_self _, ?_⟩
      show semLv (.dma q) < semLv (.dma (rcvS n))
      rw [hz]; exact (by decide : ∀ n : Fin 12, 0 < semLv (.dma (rcvS n))) n
    · exact ⟨by rw [L_tc]; exact Finset.mem_singleton_self _, by show semLv (.dma q) < 1; rw [hz]; exact Nat.one_pos⟩
    · exact ⟨by rw [L_tc]; exact Finset.mem_singleton_self _, by show semLv (.dma q) < 1; rw [hz]; exact Nat.one_pos⟩
  · rw [MayWait_zero]; iintro -; iempintro

/-! ## The cells' records -/

/-- The semaphore of cell `k`: the twelve sends, the twelve receives, the barrier. -/
def csem (k : Fin 25) : SemLoc sig :=
  if h : k.val < 24 then .dma ⟨12 + k.val, show 12 + k.val < 36 by omega⟩ else .reg barSem
abbrev kcell (ck : Dev nD × Fin 25) : GSem nD τ sig := ((ck.1 : Thread nD τ), csem ck.2)

/-- Every cell of every device is set up, at its first round. -/
def records (K : Dev nD × Fin 25 → ℕ) : sProp 𝕄 :=
  BI.bigSep Finset.univ fun ck : Dev nD × Fin 25 => iprop(cellInv ER (Rd m) (K ck) (kcell ck) ∗ reached ER (kcell ck) 0)

instance records_persistent (K) : BI.Persistent (records (F := F) m K) := by unfold records; infer_instance

theorem rec_cell (K : Dev nD × Fin 25 → ℕ) (ck : Dev nD × Fin 25) :
    records m K ⊢ iprop(cellInv ER (Rd (F := F) m) (K ck) (kcell ck) ∗ reached ER (kcell ck) 0) := by
  unfold records; exact bigSep_elim (Finset.mem_univ ck)

end Cert.KernelIdeal.Attn

end
-- ==== Proof.KernelIdeal.Link.lean ====
/-
# The steps of the protocol

One lemma for each kind of step that crosses devices: a send of query or output weights, a wait for one, the handshake.
-/
module

public import proofs.«01_k».proof.Proof.KernelIdeal.Sched

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`'s core. -/
abbrev wpc (c : Dev nD) {α : Type} (p : KProg (F := F) α) (Q : α → sProp 𝕄) : sProp 𝕄 :=
  wp frame (wpE (defs₀ (F := F)) 𝒱₀ (c : Thread nD τ) none) Set.univ p Q

/-- Device `c` still owes `O`. -/
def owe (c : Dev nD) (O : CellTallies nD τ sig Unit) : sProp 𝕄 := iprop(∃ W, owes (c : Thread nD τ) O W)

variable (m : (ℓ : Loc nD τ sig) → Buf (Elt F) ℓ) (K : Dev nD × Fin 25 → ℕ)

theorem rec_snd (c : Dev nD) (n : Fin 12) :
    records m K ⊢ iprop(cellInv ER (Rd (F := F) m) (K (c, ⟨n.val, by have := n.isLt; omega⟩)) (sndCell c n) ∗ reached ER (sndCell c n) 0) := by
  have h := rec_cell (F := F) m K (c, ⟨n.val, by have := n.isLt; omega⟩)
  have e : kcell (c, (⟨n.val, by have := n.isLt; omega⟩ : Fin 25)) = sndCell c n := by
    have := n.isLt
    show ((c : Thread nD τ), csem ⟨n.val, _⟩) = _
    unfold csem; rw [dif_pos (show n.val < 24 by omega)]; rfl
  rw [e] at h; exact h
theorem rec_rcv (c : Dev nD) (n : Fin 12) :
    records m K ⊢ iprop(cellInv ER (Rd (F := F) m) (K (c, ⟨12 + n.val, by have := n.isLt; omega⟩)) (rcvCell c n) ∗ reached ER (rcvCell c n) 0) := by
  have h := rec_cell (F := F) m K (c, ⟨12 + n.val, by have := n.isLt; omega⟩)
  have e : kcell (c, (⟨12 + n.val, by have := n.isLt; omega⟩ : Fin 25)) = rcvCell c n := by
    have := n.isLt
    show ((c : Thread nD τ), csem ⟨12 + n.val, _⟩) = _
    unfold csem; rw [dif_pos (show 12 + n.val < 24 by omega)]
    exact congrArg (fun k => ((c : Thread nD τ), SemLoc.dma k)) (Fin.ext (show 12 + (12 + n.val) = 24 + n.val by omega))
  rw [e] at h; exact h
theorem rec_bar (c : Dev nD) :
    records m K ⊢ iprop(cellInv ER (Rd (F := F) m) (K (c, 24)) (barCell c) ∗ reached ER (barCell c) 0) :=
  rec_cell (F := F) m K (c, 24)

/-- The transfer of a slot of query weights. -/
theorem xfer_q (n : Fin 12) (c d s : Dev nD) (M : Memref sig .tc .vmem S4x1024x512 .bf16) (G : M.view.ty.Contents (Elt F))
    (off : Fin 3 → ℕ) (h : QIn off) (hoff : off = ![s.val, 0, 0]) (hd : d = dst n c) (hs : sndSlot n c = s)
    (sS sR : DmaSem sig) (hS : sS = sndS n) (hR : sR = rcvS n)
    (hN : (qSlot M off h).view.dmaCredit = Nc n)
    (hpay : ∀ c s q, slotPay m n c s q = qPt M c s q G) (hany : ∀ c s, slotAny (F := F) n c s = qAny M c s)
    {w w' : (qSlot M off h).view.WordExact} {hsc : (qSlot M off h).view.ref.isScScratch = false}
    {hsem : DmaTarget.Typed .vmem (.dma sR) (.remote (Dev.tc d : Thread nD τ) (qSlot M off h) (.dma sS) hsc)}
    (O : CellTallies nD τ sig Unit) {α : Type} (k : PUnit → KProg (F := F) α) (Q : α → sProp 𝕄) :
    iprop(records m K ∗ slotPay m n c s (shareOf n) ∗ slotAny n d s ∗ owe c (O + tallyAt (rcvCell d n) () (Nc n))
        ∗ dutyTok ER (sndCell c n) 0 false ∗ dutyTok ER (rcvCell d n) 0 false)
      ⊢ iprop(((cred (tallyAt (sndCell c n) () (Nc n)) ∗ owe c O) -∗ wpc c (k ⟨⟩) Q)
        -∗ wpc c (.op (.enqueueDma (qSlot M off h) (.remote (Dev.tc d : Thread nD τ) (qSlot M off h) (.dma sS) hsc) (.dma sR) w w' hsem) k) Q) := by
  subst hoff hd hS hR
  rw [hpay, hany]
  unfold qAny owe
  iintro ⟨#Hr, Hs, ⟨%fd, Hd⟩, ⟨%W, HO⟩, Ht1, Ht2⟩ Hk
  ihave #⟨Hi1, Hr1⟩ := (rec_snd m K c n) $$ Hr
  ihave #⟨Hi2, Hr2⟩ := (rec_rcv m K (dst n c) n) $$ Hr
  unfold qPt
  iapply (Rounds.wp_send_pointsTo 𝒱₀ ER (Rd m) (c : Thread nD τ) none (c' := (dst n c : Thread nD τ))
    (src := qSlot M ![s.val, 0, 0] h) (dst := qSlot M ![s.val, 0, 0] h) (sS := .dma (sndS n)) (sem := .dma (rcvS n))
    (r₁ := 0) (r₂ := 0) (d₁ := false) (d₂ := false) (fs := G) (fd := fd) (O₀ := O + tallyAt (rcvCell (dst n c) n) () (Nc n)) (W := W)
    (by rw [duties_snd]; exact Finset.mem_singleton_self _) (by rw [duties_rcv]; exact Finset.mem_singleton_self _)
    () () (Nc n) hN (amount_snd m c n false) (amount_rcv m (dst n c) n false) O rfl
    (by rw [payload_snd, hpay, hs]; exact BI.Entails.refl _)
    (by rw [payload_rcv, rcvSlot_dst, hs, hpay]
        refine Idealize.SL.BI.BIBase.Entails.of_eq (pointsTo_congr fun i hi => ?_)
        rw [View.write_read_eq_piecewise]
        exact Finset.piecewise_eq_of_mem _ _ _ hi)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Send a slot of query weights. -/
theorem send_q (n : Fin 12) (c d s : Dev nD) (M : Memref sig .tc .vmem S4x1024x512 .bf16) (G : M.view.ty.Contents (Elt F))
    (off : Fin 3 → ℕ) (h : QIn off) (w : (qSlot M off h).view.WordExact) (l j : ℕ) (hl : l < 2) (hj : j < 3)
    (hoff : off = ![s.val, 0, 0]) (hd : d = dst n c) (hs : sndSlot n c = s)
    (hS : sndSem l j 0 hl hj (by decide) = sndS n) (hR : rcvSem l j 0 hl hj (by decide) = rcvS n)
    (hN : (qSlot M off h).view.dmaCredit = Nc n)
    (hpay : ∀ c s q, slotPay m n c s q = qPt M c s q G) (hany : ∀ c s, slotAny (F := F) n c s = qAny M c s)
    (O : CellTallies nD τ sig Unit) {α : Type} (k : PUnit → KProg (F := F) α) (Q : α → sProp 𝕄) :
    iprop(records m K ∗ slotPay m n c s (shareOf n) ∗ slotAny n d s ∗ owe c (O + tallyAt (rcvCell d n) () (Nc n))
        ∗ dutyTok ER (sndCell c n) 0 false ∗ dutyTok ER (rcvCell d n) 0 false)
      ⊢ iprop(((cred (tallyAt (sndCell c n) () (Nc n)) ∗ owe c O) -∗ wpc c (k ⟨⟩) Q)
        -∗ wpc c (sendQ M off h w d l j hl hj >>= k) Q) :=
  xfer_q m K n c d s M G off h hoff hd hs _ _ hS hR hN hpay hany O k Q

/-- Wait for the arrival of a copy of query weights. -/
theorem arrive_q (n : Fin 12) (c s : Dev nD) (M : Memref sig .tc .vmem S4x1024x512 .bf16)
    (off : Fin 3 → ℕ) (h : QIn off) (w : (qSlot M off h).view.WordExact) (sR : DmaSem sig) (hR : sR = rcvS n) (hs : rcvSlot n c = s)
    (hN : (qSlot M off h).view.dmaCredit = Nc n) (O : CellTallies nD τ sig Unit)
    (hw : (levAts L lv : sProp 𝕄) ⊢ MayWait (c : Thread nD τ) (.dma (rcvS n)) () O)
    {α : Type} (k : PUnit → KProg (F := F) α) (Q : α → sProp 𝕄) :
    iprop(records m K ∗ levAts L lv ∗ cred (tallyAt (rcvCell c n) () (Nc n)) ∗ owe c O ∗ atPos ER (rcvCell c n) 0 ∅ 0)
      ⊢ iprop(((owe c O ∗ atPos ER (rcvCell c n) 1 ∅ 0 ∗ slotPay m n c s fullShare) -∗ wpc c (k ⟨⟩) Q)
        -∗ wpc c (waitQ M off h w sR >>= k) Q) := by
  subst hR
  unfold owe
  rw [← hN]
  iintro ⟨#Hr, #Hl, Hc, ⟨%W, HO⟩, Hat⟩ Hk
  ihave #⟨Hi1, Hr1⟩ := (rec_rcv m K c n) $$ Hr
  ihave HM := hw $$ Hl
  iapply (Rounds.wp_wait_rest_token 𝒱₀ ER (Rd m) (c : Thread nD τ) none
      (wpE_waitDma2_eq 𝒱₀ (c : Thread nD τ) none Set.univ)
      (Set.mem_univ _) () (O := O) (W := W) (R := 0) (m := 0) (T := ∅)
      (by rw [Nat.zero_add, expect_rcv, hN])) $$ [Hc HO Hat HM]
  · isplitr; · iexact Hi1
    isplitl [Hc]; · iexact Hc
    isplitl [HO]; · iexact HO
    isplitl [HM]; · iexact HM
    iexact Hat
  rw [rest_rcv, hs]
  iintro ⟨HO, Hat, #Hr', Hp⟩
  iapply Hk
  isplitl [HO]; · iexists _; iexact HO
  isplitl [Hat]; · iexact Hat
  iexact Hp

/-- Wait until a copy of query weights has left: its share of the source comes back. -/
theorem leave_q (n : Fin 12) (c s : Dev nD) (M : Memref sig .tc .vmem S4x1024x512 .bf16)
    (off : Fin 3 → ℕ) (h : QIn off) (w : (qSlot M off h).view.WordExact) (sS : DmaSem sig) (hS : sS = sndS n) (hs : sndSlot n c = s)
    (hN : (qSlot M off h).view.dmaCredit = Nc n)
    {α : Type} (k : PUnit → KProg (F := F) α) (Q : α → sProp 𝕄) :
    iprop(records m K ∗ cred (tallyAt (sndCell c n) () (Nc n)) ∗ owe c 0 ∗ atPos ER (sndCell c n) 0 ∅ 0)
      ⊢ iprop(((owe c 0 ∗ atPos ER (sndCell c n) 1 ∅ 0 ∗ slotPay m n c s (shareOf n)) -∗ wpc c (k ⟨⟩) Q)
        -∗ wpc c (waitQ M off h w sS >>= k) Q) := by
  subst hS
  unfold owe
  rw [← hN]
  iintro ⟨#Hr, Hc, ⟨%W, HO⟩, Hat⟩ Hk
  ihave #⟨Hi1, Hr1⟩ := (rec_snd m K c n) $$ Hr
  iapply (Rounds.wp_wait_rest_token 𝒱₀ ER (Rd m) (c : Thread nD τ) none
      (wpE_waitDma2_eq 𝒱₀ (c : Thread nD τ) none Set.univ)
      (Set.mem_univ _) () (O := 0) (W := W) (R := 0) (m := 0) (T := ∅)
      (by rw [Nat.zero_add, expect_snd, hN])) $$ [Hc HO Hat]
  · isplitr; · iexact Hi1
    isplitl [Hc]; · iexact Hc
    isplitl [HO]; · iexact HO
    isplitr; · rw [MayWait_zero]; iempintro
    iexact Hat
  rw [rest_snd, hs]
  iintro ⟨HO, Hat, #Hr', Hp⟩
  iapply Hk
  isplitl [HO]; · iexists _; iexact HO
  isplitl [Hat]; · iexact Hat
  iexact Hp

/-- The transfer of a slot of output weights. -/
theorem xfer_o (n : Fin 12) (c d s : Dev nD) (M : Memref sig .tc .vmem S4x512x1024 .bf16) (G : M.view.ty.Contents (Elt F))
    (off : Fin 3 → ℕ) (h : OIn off) (hoff : off = ![s.val, 0, 0]) (hd : d = dst n c) (hs : sndSlot n c = s)
    (sS sR : DmaSem sig) (hS : sS = sndS n) (hR : sR = rcvS n)
    (hN : (oSlot M off h).view.dmaCredit = Nc n)
    (hpay : ∀ c s q, slotPay m n c s q = oPt M c s q G) (hany : ∀ c s, slotAny (F := F) n c s = oAny M c s)
    {w w' : (oSlot M off h).view.WordExact} {hsc : (oSlot M off h).view.ref.isScScratch = false}
    {hsem : DmaTarget.Typed .vmem (.dma sR) (.remote (Dev.tc d : Thread nD τ) (oSlot M off h) (.dma sS) hsc)}
    (O : CellTallies nD τ sig Unit) {α : Type} (k : PUnit → KProg (F := F) α) (Q : α → sProp 𝕄) :
    iprop(records m K ∗ slotPay m n c s (shareOf n) ∗ slotAny n d s ∗ owe c (O + tallyAt (rcvCell d n) () (Nc n))
        ∗ dutyTok ER (sndCell c n) 0 false ∗ dutyTok ER (rcvCell d n) 0 false)
      ⊢ iprop(((cred (tallyAt (sndCell c n) () (Nc n)) ∗ owe c O) -∗ wpc c (k ⟨⟩) Q)
        -∗ wpc c (.op (.enqueueDma (oSlot M off h) (.remote (Dev.tc d : Thread nD τ) (oSlot M off h) (.dma sS) hsc) (.dma sR) w w' hsem) k) Q) := by
  subst hoff hd hS hR
  rw [hpay, hany]
  unfold oAny owe
  iintro ⟨#Hr, Hs, ⟨%fd, Hd⟩, ⟨%W, HO⟩, Ht1, Ht2⟩ Hk
  ihave #⟨Hi1, Hr1⟩ := (rec_snd m K c n) $$ Hr
  ihave #⟨Hi2, Hr2⟩ := (rec_rcv m K (dst n c) n) $$ Hr
  unfold oPt
  iapply (Rounds.wp_send_pointsTo 𝒱₀ ER (Rd m) (c : Thread nD τ) none (c' := (dst n c : Thread nD τ))
    (src := oSlot M ![s.val, 0, 0] h) (dst := oSlot M ![s.val, 0, 0] h) (sS := .dma (sndS n)) (sem := .dma (rcvS n))
    (r₁ := 0) (r₂ := 0) (d₁ := false) (d₂ := false) (fs := G) (fd := fd) (O₀ := O + tallyAt (rcvCell (dst n c) n) () (Nc n)) (W := W)
    (by rw [duties_snd]; exact Finset.mem_singleton_self _) (by rw [duties_rcv]; exact Finset.mem_singleton_self _)
    () () (Nc n) hN (amount_snd m c n false) (amount_rcv m (dst n c) n false) O rfl
    (by rw [payload_snd, hpay, hs]; exact BI.Entails.refl _)
    (by rw [payload_rcv, rcvSlot_dst, hs, hpay]
        refine Idealize.SL.BI.BIBase.Entails.of_eq (pointsTo_congr fun i hi => ?_)
        rw [View.write_read_eq_piecewise]
        exact Finset.piecewise_eq_of_mem _ _ _ hi)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Send a slot of output weights. -/
theorem send_o (n : Fin 12) (c d s : Dev nD) (M : Memref sig .tc .vmem S4x512x1024 .bf16) (G : M.view.ty.Contents (Elt F))
    (off : Fin 3 → ℕ) (h : OIn off) (w : (oSlot M off h).view.WordExact) (l j : ℕ) (hl : l < 2) (hj : j < 3)
    (hoff : off = ![s.val, 0, 0]) (hd : d = dst n c) (hs : sndSlot n c = s)
    (hS : sndSem l j 1 hl hj (by decide) = sndS n) (hR : rcvSem l j 1 hl hj (by decide) = rcvS n)
    (hN : (oSlot M off h).view.dmaCredit = Nc n)
    (hpay : ∀ c s q, slotPay m n c s q = oPt M c s q G) (hany : ∀ c s, slotAny (F := F) n c s = oAny M c s)
    (O : CellTallies nD τ sig Unit) {α : Type} (k : PUnit → KProg (F := F) α) (Q : α → sProp 𝕄) :
    iprop(records m K ∗ slotPay m n c s (shareOf n) ∗ slotAny n d s ∗ owe c (O + tallyAt (rcvCell d n) () (Nc n))
        ∗ dutyTok ER (sndCell c n) 0 false ∗ dutyTok ER (rcvCell d n) 0 false)
      ⊢ iprop(((cred (tallyAt (sndCell c n) () (Nc n)) ∗ owe c O) -∗ wpc c (k ⟨⟩) Q)
        -∗ wpc c (sendO M off h w d l j hl hj >>= k) Q) :=
  xfer_o m K n c d s M G off h hoff hd hs _ _ hS hR hN hpay hany O k Q

/-- Wait for the arrival of a copy of output weights. -/
theorem arrive_o (n : Fin 12) (c s : Dev nD) (M : Memref sig .tc .vmem S4x512x1024 .bf16)
    (off : Fin 3 → ℕ) (h : OIn off) (w : (oSlot M off h).view.WordExact) (sR : DmaSem sig) (hR : sR = rcvS n) (hs : rcvSlot n c = s)
    (hN : (oSlot M off h).view.dmaCredit = Nc n) (O : CellTallies nD τ sig Unit)
    (hw : (levAts L lv : sProp 𝕄) ⊢ MayWait (c : Thread nD τ) (.dma (rcvS n)) () O)
    {α : Type} (k : PUnit → KProg (F := F) α) (Q : α → sProp 𝕄) :
    iprop(records m K ∗ levAts L lv ∗ cred (tallyAt (rcvCell c n) () (Nc n)) ∗ owe c O ∗ atPos ER (rcvCell c n) 0 ∅ 0)
      ⊢ iprop(((owe c O ∗ atPos ER (rcvCell c n) 1 ∅ 0 ∗ slotPay m n c s fullShare) -∗ wpc c (k ⟨⟩) Q)
        -∗ wpc c (waitO M off h w sR >>= k) Q) := by
  subst hR
  unfold owe
  rw [← hN]
  iintro ⟨#Hr, #Hl, Hc, ⟨%W, HO⟩, Hat⟩ Hk
  ihave #⟨Hi1, Hr1⟩ := (rec_rcv m K c n) $$ Hr
  ihave HM := hw $$ Hl
  iapply (Rounds.wp_wait_rest_token 𝒱₀ ER (Rd m) (c : Thread nD τ) none
      (wpE_waitDma2_eq 𝒱₀ (c : Thread nD τ) none Set.univ)
      (Set.mem_univ _) () (O := O) (W := W) (R := 0) (m := 0) (T := ∅)
      (by rw [Nat.zero_add, expect_rcv, hN])) $$ [Hc HO Hat HM]
  · isplitr; · iexact Hi1
    isplitl [Hc]; · iexact Hc
    isplitl [HO]; · iexact HO
    isplitl [HM]; · iexact HM
    iexact Hat
  rw [rest_rcv, hs]
  iintro ⟨HO, Hat, #Hr', Hp⟩
  iapply Hk
  isplitl [HO]; · iexists _; iexact HO
  isplitl [Hat]; · iexact Hat
  iexact Hp

/-- Wait until a copy of output weights has left: its share of the source comes back. -/
theorem leave_o (n : Fin 12) (c s : Dev nD) (M : Memref sig .tc .vmem S4x512x1024 .bf16)
    (off : Fin 3 → ℕ) (h : OIn off) (w : (oSlot M off h).view.WordExact) (sS : DmaSem sig) (hS : sS = sndS n) (hs : sndSlot n c = s)
    (hN : (oSlot M off h).view.dmaCredit = Nc n)
    {α : Type} (k : PUnit → KProg (F := F) α) (Q : α → sProp 𝕄) :
    iprop(records m K ∗ cred (tallyAt (sndCell c n) () (Nc n)) ∗ owe c 0 ∗ atPos ER (sndCell c n) 0 ∅ 0)
      ⊢ iprop(((owe c 0 ∗ atPos ER (sndCell c n) 1 ∅ 0 ∗ slotPay m n c s (shareOf n)) -∗ wpc c (k ⟨⟩) Q)
        -∗ wpc c (waitO M off h w sS >>= k) Q) := by
  subst hS
  unfold owe
  rw [← hN]
  iintro ⟨#Hr, Hc, ⟨%W, HO⟩, Hat⟩ Hk
  ihave #⟨Hi1, Hr1⟩ := (rec_snd m K c n) $$ Hr
  iapply (Rounds.wp_wait_rest_token 𝒱₀ ER (Rd m) (c : Thread nD τ) none
      (wpE_waitDma2_eq 𝒱₀ (c : Thread nD τ) none Set.univ)
      (Set.mem_univ _) () (O := 0) (W := W) (R := 0) (m := 0) (T := ∅)
      (by rw [Nat.zero_add, expect_snd, hN])) $$ [Hc HO Hat]
  · isplitr; · iexact Hi1
    isplitl [Hc]; · iexact Hc
    isplitl [HO]; · iexact HO
    isplitr; · rw [MayWait_zero]; iempintro
    iexact Hat
  rw [rest_snd, hs]
  iintro ⟨HO, Hat, #Hr', Hp⟩
  iapply Hk
  isplitl [HO]; · iexists _; iexact HO
  isplitl [Hat]; · iexact Hat
  iexact Hp

/-- The handshake: each neighbour gets the slots it will write here, and the slots to write there come back. -/
theorem handshake_spec (c l r : Dev nD) (hl : l = left c) (hr : r = right c) {α : Type} (k : PUnit → KProg (F := F) α) (Q : α → sProp 𝕄) :
    iprop(records m K ∗ levAts L lv ∗ owe c (O₀ c) ∗ dutyTok ER (barCell (left c)) 0 true ∗ dutyTok ER (barCell (right c)) 0 false
        ∗ barR (left c) ∗ barL (right c) ∗ cred (tallyAt (barCell c) () 2) ∗ atPos ER (barCell c) 0 ∅ 0)
      ⊢ iprop(((owe c (owesL c seqL) ∗ atPos ER (barCell c) 1 ∅ 0 ∗ barL c ∗ barR c) -∗ wpc c (k ⟨⟩) Q)
        -∗ wpc c (handshake l r >>= k) Q) := by
  subst hl hr
  unfold owe
  iintro ⟨#Hr, #Hl, ⟨%W, HO⟩, Ht1, Ht2, Hp1, Hp2, Hc, Hat⟩ Hk
  ihave #⟨HiL, HrL⟩ := (rec_bar m K (left c)) $$ Hr
  ihave #⟨HiR, HrR⟩ := (rec_bar m K (right c)) $$ Hr
  ihave #⟨HiC, HrC⟩ := (rec_bar m K c) $$ Hr
  iapply (Rounds.wp_signal 𝒱₀ ER (Rd m) (c : Thread nD τ) none (dst := (left c : Thread nD τ)) (κ := K (left c, 24))
      (d := true) (by rw [duties_bar]; exact Finset.mem_univ _) ((amount_bar m (left c) true).trans (by decide)) () (O₁ c) rfl)
    $$ [HO Ht1 Hp1]
  · isplitr; · iexact HiL
    isplitl [HO]; · iexact HO
    isplitl [Ht1]; · iexact Ht1
    isplitl [Hp1]; · rw [payload_bar_true]; iexact Hp1
    iexact HrL
  iintro HO
  unfold O₁
  iapply (Rounds.wp_signal 𝒱₀ ER (Rd m) (c : Thread nD τ) none (dst := (right c : Thread nD τ)) (κ := K (right c, 24))
      (d := false) (by rw [duties_bar]; exact Finset.mem_univ _) ((amount_bar m (right c) false).trans (by decide)) () (owesL c seqL) rfl)
    $$ [HO Ht2 Hp2]
  · isplitr; · iexact HiR
    isplitl [HO]; · iexact HO
    isplitl [Ht2]; · iexact Ht2
    isplitl [Hp2]; · rw [payload_bar_false]; iexact Hp2
    iexact HrR
  iintro HO
  ihave HM := (mayWait_owesL (F := F) c (.reg barSem) seqL (by decide)) $$ Hl
  iapply (Rounds.wp_wait_rest_token 𝒱₀ ER (Rd m) (c : Thread nD τ) none (κ := K (c, 24))
      (wpE_semWait_eq 𝒱₀ (c : Thread nD τ) none Set.univ) (Set.mem_univ _) () (O := owesL c seqL) (W := W) (R := 0) (m := 0) (T := ∅)
      (by rw [expect_bar]; decide)) $$ [Hc HO Hat HM]
  · isplitr; · iexact HiC
    isplitl [Hc]; · iexact Hc
    isplitl [HO]; · iexact HO
    isplitl [HM]; · iexact HM
    iexact Hat
  rw [rest_bar]
  iintro ⟨HO, Hat, #Hr', Hp⟩
  iapply Hk
  isplitl [HO]; · iexists _; iexact HO
  isplitl [Hat]; · iexact Hat
  iexact Hp

end Cert.KernelIdeal.Attn

end
-- ==== Proof.KernelIdeal.Kv.lean ====
/-
# The copies of keys and values

Four blocks at a time — keys and values of two halves — are copied from the arguments into one half of the key/value
buffer, while the other half is being read. Here are the blocks of that buffer, what a copy leaves there, and the two
steps of a copy, its start and its wait.
-/
module

public import proofs.«01_k».proof.Proof.KernelIdeal.Link

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

/-- The embedding of the local copies' counters. -/
abbrev EC : UEmb Counters (MT nD τ sig Unit (Elt F) ℕ UU ℕ) := countersEmb (U := UU)

/-! ## The contents of a block -/

/-- Entry `i` of a key/value block is entry `kIx b g i` of the argument: batch `b`, heads `4g` to `4g + 3`. -/
def kIx (b : Fin 4) (g : Fin 8) (i : S2x4x1024x4x128.Idx) : S4x1024x32x128.Idx := fun a => match a with
  | ⟨0, _⟩ => (b : Fin 4)
  | ⟨1, _⟩ => (i 2 : Fin 1024)
  | ⟨2, _⟩ => (⟨4 * g.val + (i 3 : Fin 4).val, by have := g.isLt; have : (i 3 : Fin 4).val < 4 := Fin.isLt (n := 4) (i 3); omega⟩ : Fin 32)
  | ⟨3, _⟩ => (i 4 : Fin 128)

/-- The key/value buffer as filled from batch `b`, heads `4g` to `4g + 3`, of the argument `X`. -/
def kvOf (X : S4x1024x32x128.Idx → Elt F .f32) (b : Fin 4) (g : Fin 8) : S2x4x1024x4x128.Idx → Elt F .f32 := fun i => X (kIx b g i)

/-- One head of one batch of the argument. -/
def kvHead (X : S4x1024x32x128.Idx → Elt F .f32) (b : Fin 4) (g : Fin 8) (h : Fin 4) : Vec F S1x1x1024x1x128 .f32 :=
  fun x => X (fun a => match a with
    | ⟨0, _⟩ => (b : Fin 4)
    | ⟨1, _⟩ => (x 2 : Fin 1024)
    | ⟨2, _⟩ => (⟨4 * g.val + h.val, by have := g.isLt; have := h.isLt; omega⟩ : Fin 32)
    | ⟨3, _⟩ => (x 4 : Fin 128))

/-- A load of head `h` of a filled block. -/
theorem read_kv (X : S4x1024x32x128.Idx → Elt F .f32) (b : Fin 4) (g : Fin 8) (p k h : ℕ) (hp : p < 2) (hk : k < 4) (hh : h < 4) :
    (kvM.access (Rect.unit (s := S2x4x1024x4x128) ![p, k, 0, h, 0] S1x1x1024x1x128.size (inbKVh p k h hp hk hh))).read (Elt F) (kvOf X b g)
      = kvHead X b g ⟨h, hh⟩ := by
  funext x
  show X (kIx b g ((Rect.unit (s := S2x4x1024x4x128) ![p, k, 0, h, 0] S1x1x1024x1x128.size (inbKVh p k h hp hk hh)).emb x)) = X _
  refine congrArg X (funext fun a => ?_)
  have h3 : (x 3 : Fin 1).val = 0 := by have : (x 3 : Fin 1).val < 1 := Fin.isLt (n := 1) (x 3); omega
  have h0 : (x 0 : Fin 1).val = 0 := by have : (x 0 : Fin 1).val < 1 := Fin.isLt (n := 1) (x 0); omega
  match a with
  | ⟨0, _⟩ => rfl
  | ⟨1, _⟩ => exact Fin.ext (show 0 + 1 * (x 2 : Fin 1024).val = (x 2 : Fin 1024).val by omega)
  | ⟨2, _⟩ => exact Fin.ext (show 4 * g.val + (h + 1 * (x 3 : Fin 1).val) = 4 * g.val + h by omega)
  | ⟨3, _⟩ => exact Fin.ext (show 0 + 1 * (x 4 : Fin 128).val = (x 4 : Fin 128).val by omega)

/-! ## The blocks -/

/-- Block `i` of half `p` of the key/value buffer at device `c` holds `f`. -/
def kvPt (c : Dev nD) (p i : ℕ) (hp : p < 2) (hi : i < 4) (f : S2x4x1024x4x128.Idx → Elt F .f32) : sProp 𝕄 :=
  kvM.view.loc (c : Thread nD τ) ↦[(kvSlot p i hp hi).view.set]{fullShare} (f : kvM.view.ty.Contents (Elt F))
/-- A block is held with some contents. -/
def kvAny (c : Dev nD) (p i : ℕ) (hp : p < 2) (hi : i < 4) : sProp 𝕄 := iprop(∃ f, kvPt c p i hp hi f)

theorem kvSlot_set (p i : ℕ) (hp : p < 2) (hi : i < 4) :
    (kvSlot p i hp hi).view.set = (Rect.unit (s := S2x4x1024x4x128) ![p, i, 0, 0, 0] S1x1x1024x4x128.size (inbKV p i hp hi)).set :=
  (View.set_reshape _ _).trans (View.set_slice_whole cc0_scratch6 _)

theorem kv_mem (p i : ℕ) (hp : p < 2) (hi : i < 4) (x : S2x4x1024x4x128.Idx) :
    x ∈ (Rect.unit (s := S2x4x1024x4x128) ![p, i, 0, 0, 0] S1x1x1024x4x128.size (inbKV p i hp hi)).set
      ↔ (x 0 : Fin 2).val = p ∧ (x 1 : Fin 4).val = i := by
  rw [Rect.mem_set_unit]
  refine ⟨fun h => ?_, fun ⟨h0, h1⟩ a => ?_⟩
  · have a0 := h 0
    have a1 := h 1
    change p ≤ (x 0 : Fin 2).val ∧ (x 0 : Fin 2).val < p + 1 at a0
    change i ≤ (x 1 : Fin 4).val ∧ (x 1 : Fin 4).val < i + 1 at a1
    omega
  · have h2 : (x 2 : Fin 1024).val < 1024 := Fin.isLt _
    have h3 : (x 3 : Fin 4).val < 4 := Fin.isLt _
    have h4 : (x 4 : Fin 128).val < 128 := Fin.isLt _
    match a with
    | ⟨0, _⟩ => exact (show p ≤ (x 0 : Fin 2).val ∧ (x 0 : Fin 2).val < p + 1 by omega)
    | ⟨1, _⟩ => exact (show i ≤ (x 1 : Fin 4).val ∧ (x 1 : Fin 4).val < i + 1 by omega)
    | ⟨2, _⟩ => exact (show 0 ≤ (x 2 : Fin 1024).val ∧ (x 2 : Fin 1024).val < 0 + 1024 by omega)
    | ⟨3, _⟩ => exact (show 0 ≤ (x 3 : Fin 4).val ∧ (x 3 : Fin 4).val < 0 + 4 by omega)
    | ⟨4, _⟩ => exact (show 0 ≤ (x 4 : Fin 128).val ∧ (x 4 : Fin 128).val < 0 + 128 by omega)

/-- The elements of block `t`. -/
abbrev kvI (t : Fin 2 × Fin 4) : Finset S2x4x1024x4x128.Idx := (kvSlot t.1.val t.2.val t.1.isLt t.2.isLt).view.set

theorem kvI_disj : ∀ t ∈ (Finset.univ : Finset (Fin 2 × Fin 4)), ∀ t' ∈ (Finset.univ : Finset (Fin 2 × Fin 4)), t ≠ t' → Disjoint (kvI t) (kvI t') := by
  intro t _ t' _ hne
  rw [kvI, kvI, kvSlot_set, kvSlot_set, Finset.disjoint_left]
  intro x hx hx'
  have a := (kv_mem t.1.val t.2.val t.1.isLt t.2.isLt x).mp hx
  have b := (kv_mem t'.1.val t'.2.val t'.1.isLt t'.2.isLt x).mp hx'
  exact hne (Prod.ext (Fin.ext (a.1.symm.trans b.1)) (Fin.ext (a.2.symm.trans b.2)))
theorem kvI_cover : (Finset.univ : Finset (Fin 2 × Fin 4)).biUnion kvI = Finset.univ := by
  ext x
  rw [Finset.mem_biUnion]
  refine ⟨fun _ => Finset.mem_univ _, fun _ => ⟨((x 0 : Fin 2), (x 1 : Fin 4)), Finset.mem_univ _, ?_⟩⟩
  rw [kvI, kvSlot_set]
  exact (kv_mem (x 0 : Fin 2).val (x 1 : Fin 4).val (Fin.isLt (n := 2) (x 0)) (Fin.isLt (n := 4) (x 1)) x).mpr ⟨rfl, rfl⟩

/-- All eight blocks held with some contents. -/
def kvAll (c : Dev nD) : sProp 𝕄 :=
  iprop((kvAny c 0 0 (by decide) (by decide) ∗ kvAny c 0 1 (by decide) (by decide) ∗ kvAny c 0 2 (by decide) (by decide) ∗ kvAny c 0 3 (by decide) (by decide))
    ∗ (kvAny c 1 0 (by decide) (by decide) ∗ kvAny c 1 1 (by decide) (by decide) ∗ kvAny c 1 2 (by decide) (by decide) ∗ kvAny c 1 3 (by decide) (by decide)))

/-- Eight assertions in a row are two groups of four. -/
theorem sep_eights (A₀ A₁ A₂ A₃ B₀ B₁ B₂ B₃ : sProp 𝕄) :
    iprop(A₀ ∗ A₁ ∗ A₂ ∗ A₃ ∗ B₀ ∗ B₁ ∗ B₂ ∗ B₃) = iprop((A₀ ∗ A₁ ∗ A₂ ∗ A₃) ∗ (B₀ ∗ B₁ ∗ B₂ ∗ B₃)) := by
  refine Idealize.SL.BI.Entails.antisymm (show iprop(A₀ ∗ A₁ ∗ A₂ ∗ A₃ ∗ B₀ ∗ B₁ ∗ B₂ ∗ B₃) ⊢ iprop((A₀ ∗ A₁ ∗ A₂ ∗ A₃) ∗ (B₀ ∗ B₁ ∗ B₂ ∗ B₃)) from ?_)
    (show iprop((A₀ ∗ A₁ ∗ A₂ ∗ A₃) ∗ (B₀ ∗ B₁ ∗ B₂ ∗ B₃)) ⊢ iprop(A₀ ∗ A₁ ∗ A₂ ∗ A₃ ∗ B₀ ∗ B₁ ∗ B₂ ∗ B₃) from ?_)
  · iintro ⟨H0, H1, H2, H3, H4, H5, H6, H7⟩; iframe
  · iintro ⟨⟨H0, H1, H2, H3⟩, ⟨H4, H5, H6, H7⟩⟩; iframe

theorem kvAll_eq (c : Dev nD) :
    (BI.bigSep Finset.univ fun t : Fin 2 × Fin 4 => kvAny (F := F) c t.1.val t.2.val t.1.isLt t.2.isLt) = kvAll c := by
  rw [bigSep_univ_eq_bigSepL (l := [((0 : Fin 2), (0 : Fin 4)), (0, 1), (0, 2), (0, 3), (1, 0), (1, 1), (1, 2), (1, 3)]) (by decide) (by decide)]
  unfold kvAll
  exact sep_eights _ _ _ _ _ _ _ _

/-- The whole buffer is its eight blocks. -/
theorem kv_split (c : Dev nD) (f : S2x4x1024x4x128.Idx → Elt F .f32) :
    (((c : Thread nD τ).loc cc0_scratch6) ↦{fullShare} (f : Buf (Elt F) ((c : Thread nD τ).loc cc0_scratch6)) : sProp 𝕄) ⊢ kvAll c := by
  rw [← kvAll_eq, ← kvI_cover, pointsTo_biUnion _ _ kvI_disj]
  refine bigSep_mono fun t _ => (show (kvPt c t.1.val t.2.val t.1.isLt t.2.isLt f : sProp 𝕄) ⊢ kvAny c t.1.val t.2.val t.1.isLt t.2.isLt from ?_)
  unfold kvAny
  iintro H
  iexists f
  iexact H
theorem kv_join (c : Dev nD) :
    kvAll (F := F) c ⊢ iprop(∃ f : Buf (Elt F) ((c : Thread nD τ).loc cc0_scratch6), ((c : Thread nD τ).loc cc0_scratch6) ↦{fullShare} f) := by
  rw [← kvAll_eq]
  have : Nonempty (S2x4x1024x4x128.Idx → Elt F .f32) := ⟨fun _ => (FloatOps.ofBits .f32 0 : F .f32)⟩
  unfold kvAny
  refine (bigSep_exists_pi _ _).trans ?_
  iintro ⟨%fs, H⟩
  unfold kvPt
  ihave ⟨%g, -, H⟩ := (pointsTo_biUnion_join Finset.univ kvI fs (fs (0, 0)) kvI_disj) $$ H
  rw [kvI_cover]
  iexists g
  iexact H

/-! ## The copies -/

/-- Some share of an argument of keys or values is held. -/
def held (c : Dev nD) (M : Memref sig .tc .hbm S4x1024x32x128 .f32) (X : M.view.ty.Contents (Elt F)) : sProp 𝕄 :=
  iprop(∃ q, M.view.loc (c : Thread nD τ) ↦[M.view.set]{q} X)

/-- The credit of one block. -/
def Nkv : ℕ := (kvSlot 0 0 (by decide) (by decide)).view.dmaCredit

/-- A copy into block `i` of half `p` is on its way, to leave batch `b`, heads `4g` to `4g + 3` of `X` there. -/
def kvFly (c : Dev nD) (p i : ℕ) (hp : p < 2) (hi : i < 4) (X : S4x1024x32x128.Idx → Elt F .f32) (b : Fin 4) (g : Fin 8) : sProp 𝕄 :=
  Transfers.Flight EC (c : Thread nD τ) (.dma (kvSem p i hp hi)) () Nkv (kvPt c p i hp hi (kvOf X b g))

theorem kv_landed (M : Memref sig .tc .hbm S4x1024x32x128 .f32) (X : M.view.ty.Contents (Elt F)) (X' : S4x1024x32x128.Idx → Elt F .f32)
    (hX : M.view.read (Elt F) X = X') (off : Fin 4 → ℕ) (h : KIn off) (b : Fin 4) (g : Fin 8) (hoff : off = ![b.val, 0, 4 * g.val, 0])
    (p i : ℕ) (hp : p < 2) (hi : i < 4) (fd : kvM.view.ty.Contents (Elt F)) :
    ∀ x ∈ (kvSlot p i hp hi).view.set,
      ((kvSlot p i hp hi).view.write (Elt F) fd ((kBlk M off h).view.read (Elt F) X) Finset.univ) x = kvOf X' b g x := by
  subst hoff hX
  intro x hx
  obtain ⟨y, _, rfl⟩ := Finset.mem_map.mp hx
  rw [View.write_emb_of_mem _ _ (Finset.mem_univ y)]
  have e4 : (Shape.reshapeEquiv (squeezes_S1x1024x4x128_S1024x4x128).numel_eq y : S1x1024x4x128.Idx)
      = (Fin.cons ⟨0, Nat.one_pos⟩ y : (⟨4, Matrix.vecCons 1 S1024x4x128.size⟩ : Shape).Idx) :=
    Shape.reshapeEquiv_cons_one _ y
  have e5 : (Shape.reshapeEquiv (squeezes_S1x1x1024x4x128_S1024x4x128).numel_eq y : S1x1x1024x4x128.Idx)
      = (Fin.cons ⟨0, Nat.one_pos⟩ (Fin.cons ⟨0, Nat.one_pos⟩ y : S1x1024x4x128.Idx) : (⟨5, Matrix.vecCons 1 S1x1024x4x128.size⟩ : Shape).Idx) := by
    rw [← Shape.reshapeEquiv_reshapeEquiv (s := S1x1x1024x4x128) (s' := S1x1024x4x128) (by decide) (squeezes_S1x1024x4x128_S1024x4x128).numel_eq, e4]
    exact Shape.reshapeEquiv_cons_one (d := S1x1024x4x128.size) _ _
  show M.view.read (Elt F) X ((Rect.unit (s := S4x1024x32x128) ![b.val, 0, 4 * g.val, 0] S1x1024x4x128.size h).emb
      (Shape.reshapeEquiv (squeezes_S1x1024x4x128_S1024x4x128).numel_eq y))
    = M.view.read (Elt F) X (kIx b g ((Rect.unit (s := S2x4x1024x4x128) ![p, i, 0, 0, 0] S1x1x1024x4x128.size (inbKV p i hp hi)).emb
      (Shape.reshapeEquiv (squeezes_S1x1x1024x4x128_S1024x4x128).numel_eq y)))
  rw [e4, e5]
  refine congrArg _ (funext fun a => ?_)
  match a with
  | ⟨0, _⟩ => exact Fin.ext (show b.val + 1 * 0 = b.val by omega)
  | ⟨1, _⟩ => rfl
  | ⟨2, _⟩ => exact Fin.ext (show 4 * g.val + 1 * (y 1 : Fin 4).val = 4 * g.val + (0 + 1 * (y 1 : Fin 4).val) by omega)
  | ⟨3, _⟩ => rfl

/-- Start a copy. -/
theorem kvStart_spec (c : Dev nD) (M : Memref sig .tc .hbm S4x1024x32x128 .f32) (X : M.view.ty.Contents (Elt F)) (X' : S4x1024x32x128.Idx → Elt F .f32)
    (hX : M.view.read (Elt F) X = X') (off : Fin 4 → ℕ) (h : KIn off) (b : Fin 4) (g : Fin 8) (hoff : off = ![b.val, 0, 4 * g.val, 0])
    (p i : ℕ) (hp : p < 2) (hi : i < 4) {α : Type} (k : PUnit → KProg (F := F) α) (Q : α → sProp 𝕄) :
    iprop(held c M X ∗ kvAny c p i hp hi ∗ semVal ((c : Thread nD τ), .dma (kvSem p i hp hi)) 0)
      ⊢ iprop(((held c M X ∗ kvFly c p i hp hi X' b g) -∗ wpc c (k ⟨⟩) Q) -∗ wpc c (kvStart M off h p i hp hi >>= k) Q) := by
  unfold held kvAny kvPt
  iintro ⟨⟨%q, HX⟩, ⟨%fd, Hd⟩, Hv⟩ Hk
  ihave ⟨HX1, HX2⟩ := (pointsTo_share (PosShare.mem_left_op_right q)).1 $$ HX
  ihave ⟨HX1, -⟩ := (pointsTo_split_subset (I := (kBlk M off h).view.set) (S := M.view.set) (q := q.left) (f := X)
    ((View.set_reshape _ _).trans_subset (View.set_slice_subset _ _))).1 $$ HX1
  iapply (Transfers.wp_dmaLocal EC 𝒱₀ (c : Thread nD τ) none (src := kBlk M off h) (via := .same) (dst := kvSlot p i hp hi) (sm := .dma (kvSem p i hp hi))
    (fs := X) (fd := fd) (Sd := (kvSlot p i hp hi).view.set) () Nkv rfl (View.dmaCredit_pos _ (by decide)) (Finset.Subset.refl _)) $$ [HX1 Hd Hv]
  · isplitl [HX1]; · iexact HX1
    isplitl [Hd]; · iexact Hd
    iexact Hv
  iintro Hf
  iapply Hk
  isplitl [HX2]; · iexists _; iexact HX2
  unfold kvFly
  iapply (Transfers.Flight_mono EC (c : Thread nD τ) ?_) $$ Hf
  iintro ⟨Hd, -⟩
  unfold kvPt
  iapply (Idealize.SL.BI.BIBase.Entails.of_eq (pointsTo_congr (kv_landed M X X' hX off h b g hoff p i hp hi fd))) $$ Hd

/-- Wait for a copy. -/
theorem kvWait_spec (c : Dev nD) (M : Memref sig .tc .hbm S4x1024x32x128 .f32) (X' : S4x1024x32x128.Idx → Elt F .f32)
    (off : Fin 4 → ℕ) (h : KIn off) (b : Fin 4) (g : Fin 8)
    (p i : ℕ) (hp : p < 2) (hi : i < 4) (O : CellTallies nD τ sig Unit)
    (hw : (levAts L lv : sProp 𝕄) ⊢ MayWait (c : Thread nD τ) (.dma (kvSem p i hp hi)) () O)
    {α : Type} (k : PUnit → KProg (F := F) α) (Q : α → sProp 𝕄) :
    iprop(levAts L lv ∗ kvFly c p i hp hi X' b g ∗ owe c O)
      ⊢ iprop(((owe c O ∗ kvPt c p i hp hi (kvOf X' b g) ∗ semVal ((c : Thread nD τ), .dma (kvSem p i hp hi)) 0) -∗ wpc c (k ⟨⟩) Q)
        -∗ wpc c (kvWait M off h p i hp hi >>= k) Q) := by
  unfold owe kvFly
  iintro ⟨#Hl, Hf, ⟨%W, HO⟩⟩ Hk
  ihave HM := hw $$ Hl
  iapply (Transfers.wp_waitLocalO EC 𝒱₀ (c : Thread nD τ) none (srcw := kBlk M off h) (dstw := kvSlot p i hp hi) (sem := kvSem p i hp hi)
    (hsrc := (View.wordExact_bits rfl).reshape _ _) (hdst := (View.wordExact_bits rfl).reshape _ _) (N := Nkv) () rfl) $$ [Hf HO HM]
  · isplitl [Hf]; · iexact Hf
    isplitl [HO]; · iexact HO
    iexact HM
  iintro ⟨Hp, Hv, HO⟩
  iapply Hk
  isplitl [HO]; · iexists _; iexact HO
  isplitl [Hp]; · iexact Hp
  iexact Hv

end Cert.KernelIdeal.Attn

end
-- ==== Proof.KernelIdeal.KvStep.lean ====
/-
# The copies of keys and values, four at a time

A step of the kernel copies four blocks: keys and values of a first half, keys and values of a second. Here are the
three states of one half of the key/value buffer — idle, being filled, filled — and the two moves between them.
-/
module

public import proofs.«01_k».proof.Proof.KernelIdeal.Kv

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The keys device `c` is given. -/
def keysAt (c : Dev nD) : S4x1024x32x128.Idx → Elt F .f32 := m ((c : Thread nD τ).loc main_arg2)
/-- The values device `c` is given. -/
def valsAt (c : Dev nD) : S4x1024x32x128.Idx → Elt F .f32 := m ((c : Thread nD τ).loc main_arg3)

/-- The device holds shares of its keys and of its values. -/
def heldKV (c : Dev nD) : sProp 𝕄 := iprop(held c kM (m ((c : Thread nD τ).loc main_arg2)) ∗ held c vM (m ((c : Thread nD τ).loc main_arg3)))

/-- The four semaphores of half `p` of the buffer are at zero. -/
def kvZero (c : Dev nD) (p : ℕ) (hp : p < 2) : sProp 𝕄 :=
  iprop(semVal ((c : Thread nD τ), .dma (kvSem p 0 hp (by decide))) 0 ∗ semVal ((c : Thread nD τ), .dma (kvSem p 1 hp (by decide))) 0 ∗ semVal ((c : Thread nD τ), .dma (kvSem p 2 hp (by decide))) 0 ∗ semVal ((c : Thread nD τ), .dma (kvSem p 3 hp (by decide))) 0)
/-- Half `p` of the buffer is held, with any contents, and nothing is being copied into it. -/
def kvIdle (c : Dev nD) (p : ℕ) (hp : p < 2) : sProp 𝕄 :=
  iprop((kvAny c p 0 hp (by decide) ∗ kvAny c p 1 hp (by decide) ∗ kvAny c p 2 hp (by decide) ∗ kvAny c p 3 hp (by decide)) ∗ kvZero c p hp)
/-- Keys and values of the head groups `g₁` and `g₂` of batch `c` are being copied into half `p` of the buffer. -/
def kvBusy (c : Dev nD) (p : ℕ) (hp : p < 2) (g₁ g₂ : Fin 8) : sProp 𝕄 :=
  iprop(kvFly c p 0 hp (by decide) (keysAt m c) c g₁ ∗ kvFly c p 1 hp (by decide) (valsAt m c) c g₁ ∗ kvFly c p 2 hp (by decide) (keysAt m c) c g₂ ∗ kvFly c p 3 hp (by decide) (valsAt m c) c g₂)
/-- Half `p` of the buffer holds keys and values of the head groups `g₁` and `g₂` of batch `c`. -/
def kvFull (c : Dev nD) (p : ℕ) (hp : p < 2) (g₁ g₂ : Fin 8) : sProp 𝕄 :=
  iprop((kvPt c p 0 hp (by decide) (kvOf (keysAt m c) c g₁) ∗ kvPt c p 1 hp (by decide) (kvOf (valsAt m c) c g₁) ∗ kvPt c p 2 hp (by decide) (kvOf (keysAt m c) c g₂) ∗ kvPt c p 3 hp (by decide) (kvOf (valsAt m c) c g₂)) ∗ kvZero c p hp)

/-- A filled half of the buffer may be filled again. -/
theorem kvFull_idle (c : Dev nD) (p : ℕ) (hp : p < 2) (g₁ g₂ : Fin 8) : (kvFull m c p hp g₁ g₂ : sProp 𝕄) ⊢ kvIdle c p hp := by
  unfold kvFull kvIdle kvAny
  iintro ⟨⟨H0, H1, H2, H3⟩, Hz⟩
  isplitr [Hz]
  · isplitl [H0]; · iexists _; iexact H0
    isplitl [H1]; · iexists _; iexact H1
    isplitl [H2]; · iexists _; iexact H2
    iexists _; iexact H3
  · iexact Hz

/-- Start the four copies of a step. -/
theorem kvStarts_spec (c : Dev nD) (o₁ o₂ : Fin 4 → ℕ) (h₁ : KIn o₁) (h₂ : KIn o₂) (p : ℕ) (hp : p < 2) (g₁ g₂ : Fin 8)
    (e₁ : o₁ = ![c.val, 0, 4 * g₁.val, 0]) (e₂ : o₂ = ![c.val, 0, 4 * g₂.val, 0])
    {α : Type} (k : PUnit → KProg (F := F) α) (Q : α → sProp 𝕄) :
    iprop(heldKV m c ∗ kvIdle c p hp)
      ⊢ iprop(((heldKV m c ∗ kvBusy m c p hp g₁ g₂) -∗ wpc c (k ⟨⟩) Q) -∗ wpc c (kvStarts o₁ o₂ h₁ h₂ p hp >>= k) Q) := by
  rw [show (kvStarts o₁ o₂ h₁ h₂ p hp >>= k) = (kvStart kM o₁ h₁ p 0 hp (by decide) >>= fun _ => kvStart vM o₁ h₁ p 1 hp (by decide) >>= fun _ =>
    kvStart kM o₂ h₂ p 2 hp (by decide) >>= fun _ => kvStart vM o₂ h₂ p 3 hp (by decide) >>= k) from rfl]
  unfold heldKV kvIdle kvZero kvBusy
  iintro ⟨⟨HK, HV⟩, ⟨H0, H1, H2, H3⟩, ⟨Z0, Z1, Z2, Z3⟩⟩ Hk
  iapply (kvStart_spec c kM _ (keysAt m c) rfl o₁ h₁ c g₁ e₁ p 0 hp _ _ Q) $$ [HK H0 Z0]
  · isplitl [HK]; · iexact HK
    isplitl [H0]; · iexact H0
    iexact Z0
  iintro ⟨HK, F0⟩
  iapply (kvStart_spec c vM _ (valsAt m c) rfl o₁ h₁ c g₁ e₁ p 1 hp _ _ Q) $$ [HV H1 Z1]
  · isplitl [HV]; · iexact HV
    isplitl [H1]; · iexact H1
    iexact Z1
  iintro ⟨HV, F1⟩
  iapply (kvStart_spec c kM _ (keysAt m c) rfl o₂ h₂ c g₂ e₂ p 2 hp _ _ Q) $$ [HK H2 Z2]
  · isplitl [HK]; · iexact HK
    isplitl [H2]; · iexact H2
    iexact Z2
  iintro ⟨HK, F2⟩
  iapply (kvStart_spec c vM _ (valsAt m c) rfl o₂ h₂ c g₂ e₂ p 3 hp _ _ Q) $$ [HV H3 Z3]
  · isplitl [HV]; · iexact HV
    isplitl [H3]; · iexact H3
    iexact Z3
  iintro ⟨HV, F3⟩
  iapply Hk
  iframe

/-- Wait for the four copies of a step. -/
theorem kvWaits_spec (c : Dev nD) (o₁ o₂ : Fin 4 → ℕ) (h₁ : KIn o₁) (h₂ : KIn o₂) (p : ℕ) (hp : p < 2) (g₁ g₂ : Fin 8)
    (ns : List (Fin 12)) (hns : ∀ (i : ℕ) (hi : i < 4), ∀ n ∈ ns, semLv (.dma (kvSem p i hp hi)) < semLv (.dma (rcvS n)))
    {α : Type} (k : PUnit → KProg (F := F) α) (Q : α → sProp 𝕄) :
    iprop(levAts L lv ∗ owe c (owesL c ns) ∗ kvBusy m c p hp g₁ g₂)
      ⊢ iprop(((owe c (owesL c ns) ∗ kvFull m c p hp g₁ g₂) -∗ wpc c (k ⟨⟩) Q) -∗ wpc c (kvWaits o₁ o₂ h₁ h₂ p hp >>= k) Q) := by
  rw [show (kvWaits o₁ o₂ h₁ h₂ p hp >>= k) = (kvWait kM o₁ h₁ p 0 hp (by decide) >>= fun _ => kvWait vM o₁ h₁ p 1 hp (by decide) >>= fun _ =>
    kvWait kM o₂ h₂ p 2 hp (by decide) >>= fun _ => kvWait vM o₂ h₂ p 3 hp (by decide) >>= k) from rfl]
  unfold kvBusy kvFull kvZero
  iintro ⟨#Hl, HO, ⟨F0, F1, F2, F3⟩⟩ Hk
  iapply (kvWait_spec c kM (keysAt m c) o₁ h₁ c g₁ p 0 hp _ (owesL c ns)
    (mayWait_owesL c _ ns (hns 0 _)) _ Q) $$ [F0 HO]
  · isplitr; · iexact Hl
    isplitl [F0]; · iexact F0
    iexact HO
  iintro ⟨HO, H0, Z0⟩
  iapply (kvWait_spec c vM (valsAt m c) o₁ h₁ c g₁ p 1 hp _ (owesL c ns)
    (mayWait_owesL c _ ns (hns 1 _)) _ Q) $$ [F1 HO]
  · isplitr; · iexact Hl
    isplitl [F1]; · iexact F1
    iexact HO
  iintro ⟨HO, H1, Z1⟩
  iapply (kvWait_spec c kM (keysAt m c) o₂ h₂ c g₂ p 2 hp _ (owesL c ns)
    (mayWait_owesL c _ ns (hns 2 _)) _ Q) $$ [F2 HO]
  · isplitr; · iexact Hl
    isplitl [F2]; · iexact F2
    iexact HO
  iintro ⟨HO, H2, Z2⟩
  iapply (kvWait_spec c vM (valsAt m c) o₂ h₂ c g₂ p 3 hp _ (owesL c ns)
    (mayWait_owesL c _ ns (hns 3 _)) _ Q) $$ [F3 HO]
  · isplitr; · iexact Hl
    isplitl [F3]; · iexact F3
    iexact HO
  iintro ⟨HO, H3, Z3⟩
  iapply Hk
  iframe

end Cert.KernelIdeal.Attn

end
-- ==== Proof.KernelIdeal.Stage.lean ====
/-
# Loads, stores, and the staging of the device's own weights

A load or a store of one weight slot, and the phase that rounds the input and the device's own weights into their
buffers.
-/
module

public import proofs.«01_k».proof.Proof.KernelIdeal.KvStep

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Load one slot of query weights; `v` names the value read. -/
theorem load_q (c s : Dev nD) (M : Memref sig .tc .vmem S4x1024x512 .bf16) (q : PosShare TreeShare) (f : M.view.ty.Contents (Elt F))
    (off : Fin 3 → ℕ) (h : QIn off) (e : off = ![s.val, 0, 0]) (v : Vec F S1x1024x512 .bf16)
    (hv : (M.access (qRect off h)).read (Elt F) f = v) (hl : M.view.LoadsAt (qRect off h).toLoadRect)
    {α : Type} (k : Vec F S1x1024x512 .bf16 → KProg (F := F) α) (Q : α → sProp 𝕄) :
    qPt M c s q f ⊢ iprop((qPt M c s q f -∗ wpc c (k v) Q)
      -∗ wpc c (Prog.lift (.load M (qRect off h).toLoadRect hl) >>= k) Q) := by
  subst e; subst hv
  unfold qPt
  iintro H Hk
  iapply (wp_load_rect 𝒱₀ (c : Thread nD τ) none Set.univ (m := M) (r := qRect ![s.val, 0, 0] h)
    (S := (qSlot M ![s.val, 0, 0] (qIn s)).view.set) (q := q) (f := f)
    ((View.set_reshape _ _).symm.subset)) $$ H
  iexact Hk

/-- Store one slot of query weights: afterwards it holds any contents that read as the value stored. -/
theorem store_q (c s : Dev nD) (M : Memref sig .tc .vmem S4x1024x512 .bf16) (g : M.view.ty.Contents (Elt F))
    (off : Fin 3 → ℕ) (h : QIn off) (e : off = ![s.val, 0, 0]) (w : Vec F S1x1024x512 .bf16)
    (hg : (M.access (qRect off h)).read (Elt F) g = w) (hx : (M.access (qRect off h)).Stores Finset.univ)
    (hm : (Finset.univ : Finset (qRect off h).shape.Idx) = Finset.univ ∨ ∀ a, (qRect off h).stride a = 1)
    {α : Type} (k : PUnit → KProg (F := F) α) (Q : α → sProp 𝕄) :
    qAny M c s ⊢ iprop((qPt M c s fullShare g -∗ wpc c (k ⟨⟩) Q)
      -∗ wpc c (Prog.lift (.store M (qRect off h) w Finset.univ hx hm) >>= k) Q) := by
  subst e; subst hg
  unfold qAny qPt
  iintro ⟨%f, H⟩ Hk
  iapply (wp_store 𝒱₀ (c : Thread nD τ) none Set.univ (m := M) (r := qRect ![s.val, 0, 0] h) (Mk := Finset.univ)
    (S := (qSlot M ![s.val, 0, 0] (qIn s)).view.set) (f := f)
    ((View.set_reshape _ _).symm.subset)) $$ H
  iintro H
  iapply Hk
  have hw : ∀ i ∈ (qSlot M ![s.val, 0, 0] (qIn s)).view.set,
      (M.access (qRect ![s.val, 0, 0] h)).write (Elt F) f ((M.access (qRect ![s.val, 0, 0] h)).read (Elt F) g) Finset.univ i = g i := by
    intro i hi
    have hs : (qSlot M ![s.val, 0, 0] (qIn s)).view.set = (M.access (qRect ![s.val, 0, 0] h)).set := View.set_reshape _ _
    rw [View.write_read_eq_piecewise, Finset.piecewise_eq_of_mem]
    exact (hs ▸ hi : i ∈ (M.access (qRect ![s.val, 0, 0] h)).set)
  iapply (Idealize.SL.BI.BIBase.Entails.of_eq (pointsTo_congr hw)) $$ H

/-- Load one slot of output weights; `v` names the value read. -/
theorem load_o (c s : Dev nD) (M : Memref sig .tc .vmem S4x512x1024 .bf16) (q : PosShare TreeShare) (f : M.view.ty.Contents (Elt F))
    (off : Fin 3 → ℕ) (h : OIn off) (e : off = ![s.val, 0, 0]) (v : Vec F S1x512x1024 .bf16)
    (hv : (M.access (oRect off h)).read (Elt F) f = v) (hl : M.view.LoadsAt (oRect off h).toLoadRect)
    {α : Type} (k : Vec F S1x512x1024 .bf16 → KProg (F := F) α) (Q : α → sProp 𝕄) :
    oPt M c s q f ⊢ iprop((oPt M c s q f -∗ wpc c (k v) Q)
      -∗ wpc c (Prog.lift (.load M (oRect off h).toLoadRect hl) >>= k) Q) := by
  subst e; subst hv
  unfold oPt
  iintro H Hk
  iapply (wp_load_rect 𝒱₀ (c : Thread nD τ) none Set.univ (m := M) (r := oRect ![s.val, 0, 0] h)
    (S := (oSlot M ![s.val, 0, 0] (oIn s)).view.set) (q := q) (f := f)
    ((View.set_reshape _ _).symm.subset)) $$ H
  iexact Hk

/-- Store one slot of output weights: afterwards it holds any contents that read as the value stored. -/
theorem store_o (c s : Dev nD) (M : Memref sig .tc .vmem S4x512x1024 .bf16) (g : M.view.ty.Contents (Elt F))
    (off : Fin 3 → ℕ) (h : OIn off) (e : off = ![s.val, 0, 0]) (w : Vec F S1x512x1024 .bf16)
    (hg : (M.access (oRect off h)).read (Elt F) g = w) (hx : (M.access (oRect off h)).Stores Finset.univ)
    (hm : (Finset.univ : Finset (oRect off h).shape.Idx) = Finset.univ ∨ ∀ a, (oRect off h).stride a = 1)
    {α : Type} (k : PUnit → KProg (F := F) α) (Q : α → sProp 𝕄) :
    oAny M c s ⊢ iprop((oPt M c s fullShare g -∗ wpc c (k ⟨⟩) Q)
      -∗ wpc c (Prog.lift (.store M (oRect off h) w Finset.univ hx hm) >>= k) Q) := by
  subst e; subst hg
  unfold oAny oPt
  iintro ⟨%f, H⟩ Hk
  iapply (wp_store 𝒱₀ (c : Thread nD τ) none Set.univ (m := M) (r := oRect ![s.val, 0, 0] h) (Mk := Finset.univ)
    (S := (oSlot M ![s.val, 0, 0] (oIn s)).view.set) (f := f)
    ((View.set_reshape _ _).symm.subset)) $$ H
  iintro H
  iapply Hk
  have hw : ∀ i ∈ (oSlot M ![s.val, 0, 0] (oIn s)).view.set,
      (M.access (oRect ![s.val, 0, 0] h)).write (Elt F) f ((M.access (oRect ![s.val, 0, 0] h)).read (Elt F) g) Finset.univ i = g i := by
    intro i hi
    have hs : (oSlot M ![s.val, 0, 0] (oIn s)).view.set = (M.access (oRect ![s.val, 0, 0] h)).set := View.set_reshape _ _
    rw [View.write_read_eq_piecewise, Finset.piecewise_eq_of_mem]
    exact (hs ▸ hi : i ∈ (M.access (oRect ![s.val, 0, 0] h)).set)
  iapply (Idealize.SL.BI.BIBase.Entails.of_eq (pointsTo_congr hw)) $$ H

/-! ## Whole buffers -/

/-- Buffer `b` of device `c` is held whole and holds `f`. -/
abbrev bufPt (c : Dev nD) (b : Ref sig .tc) (f : b.ty.Contents (Elt F)) : sProp 𝕄 := ((c : Thread nD τ).loc b) ↦{fullShare} f
/-- Buffer `b` of device `c` is held whole, with any contents. -/
def bufAny (c : Dev nD) (b : Ref sig .tc) : sProp 𝕄 := iprop(∃ f, bufPt (F := F) c b f)

theorem zero2 : (![0, 0] : Fin 2 → ℕ) = fun _ => 0 := by decide
theorem zero3 : (![0, 0, 0] : Fin 3 → ℕ) = fun _ => 0 := by decide

/-- The three staged blocks of device `c`. -/
def staged (c : Dev nD) : sProp 𝕄 :=
  iprop(bufPt c cc0_stg0_0 (xstg m c) ∗ bufPt c cc0_stg1_0 (wqstg m c) ∗ bufPt c cc0_stg2_0 (wostg m c))

/-- The device's own slots, before: any contents. -/
def ownAny (c : Dev nD) : sProp 𝕄 := iprop(qAny (F := F) qaM c c ∗ oAny (F := F) oaM c c ∗ qAny (F := F) qbM c c ∗ oAny (F := F) obM c c)
/-- The device's own slots, after: its own weights, rounded. -/
def ownFull (c : Dev nD) : sProp 𝕄 :=
  iprop(qPt qaM c c fullShare (gqa m) ∗ oPt oaM c c fullShare (goa m) ∗ qPt qbM c c fullShare (gqb m) ∗ oPt obM c c fullShare (gob m))

/-- Round the input and the device's own weights into place. -/
theorem stageIn_spec (c : Dev nD) (qo oo : Fin 3 → ℕ) (hq : QIn qo) (ho : OIn oo)
    (pq : (qRect qo hq).PackedRows (EltTy.packing .bf16)) (po : (oRect oo ho).PackedRows (EltTy.packing .bf16))
    (eq : qo = ![c.val, 0, 0]) (eo : oo = ![c.val, 0, 0]) {α : Type} (k : PUnit → KProg (F := F) α) (Q : α → sProp 𝕄) :
    iprop(staged m c ∗ bufAny (F := F) c cc0_scratch4 ∗ ownAny c)
      ⊢ iprop(((staged m c ∗ bufPt c cc0_scratch4 (xbOf m c) ∗ ownFull m c) -∗ wpc c (k ⟨⟩) Q) -∗ wpc c (stageIn qo oo hq ho pq po >>= k) Q) := by
  unfold staged ownAny ownFull bufAny qAny oAny
  iintro ⟨⟨Hx, Hwq, Hwo⟩, ⟨%fx, Hxb⟩, ⟨Hqa, Hoa, Hqb, Hob⟩⟩ Hk
  iapply (wp_load_rect 𝒱₀ (c : Thread nD τ) none Set.univ (m := xM) (r := Rect.unit (s := S1x1024x1024) ![0, 0, 0] S1x1024x1024.size inb_S1x1024x1024_S1x1024x1024_0_0_0) (Finset.subset_univ _)) $$ Hx; iintro Hx
  iapply (wp_load_rect 𝒱₀ (c : Thread nD τ) none Set.univ (m := xbM) (r := Rect.unit (s := S1024x1024) ![0, 0] S1024x1024.size inb_S1024x1024_S1024x1024_0_0) (Finset.subset_univ _)) $$ Hxb; iintro Hxb
  iapply (wp_store 𝒱₀ (c : Thread nD τ) none Set.univ (m := xbM) (r := Rect.unit (s := S1024x1024) ![0, 0] S1024x1024.size inb_S1024x1024_S1024x1024_0_0) (Mk := Finset.univ) (Finset.subset_univ _)) $$ Hxb; iintro Hxb
  iapply (wp_load_rect 𝒱₀ (c : Thread nD τ) none Set.univ (m := wqM) (r := Rect.unit (s := S1024x1024) ![0, 0] S1024x512.size inb_S1024x1024_S1024x512_0_0) (Finset.subset_univ _)) $$ Hwq; iintro Hwq
  icases Hqa with ⟨%fqa, Hqa⟩
  iapply (load_q c c qaM fullShare fqa qo hq eq _ rfl _ _ Q) $$ Hqa; iintro Hqa
  iapply (store_q c c qaM (gqa m) qo hq eq _ (read_qa m hq c eq) _ _ _ Q) $$ [Hqa]
  · unfold qAny; iexists _; iexact Hqa
  iintro Hqa
  iapply (wp_load_rect 𝒱₀ (c : Thread nD τ) none Set.univ (m := wqM) (r := Rect.unit (s := S1024x1024) ![0, 512] S1024x512.size inb_S1024x1024_S1024x512_0_512) (Finset.subset_univ _)) $$ Hwq; iintro Hwq
  icases Hqb with ⟨%fqb, Hqb⟩
  iapply (load_q c c qbM fullShare fqb qo hq eq _ rfl _ _ Q) $$ Hqb; iintro Hqb
  iapply (store_q c c qbM (gqb m) qo hq eq _ (read_qb m hq c eq) _ _ _ Q) $$ [Hqb]
  · unfold qAny; iexists _; iexact Hqb
  iintro Hqb
  iapply (wp_load_rect 𝒱₀ (c : Thread nD τ) none Set.univ (m := woM) (r := Rect.unit (s := S1024x1024) ![0, 0] S512x1024.size inb_S1024x1024_S512x1024_0_0) (Finset.subset_univ _)) $$ Hwo; iintro Hwo
  icases Hoa with ⟨%foa, Hoa⟩
  iapply (load_o c c oaM fullShare foa oo ho eo _ rfl _ _ Q) $$ Hoa; iintro Hoa
  iapply (store_o c c oaM (goa m) oo ho eo _ (read_oa m ho c eo) _ _ _ Q) $$ [Hoa]
  · unfold oAny; iexists _; iexact Hoa
  iintro Hoa
  iapply (wp_load_rect 𝒱₀ (c : Thread nD τ) none Set.univ (m := woM) (r := Rect.unit (s := S1024x1024) ![512, 0] S512x1024.size inb_S1024x1024_S512x1024_512_0) (Finset.subset_univ _)) $$ Hwo; iintro Hwo
  icases Hob with ⟨%fob, Hob⟩
  iapply (load_o c c obM fullShare fob oo ho eo _ rfl _ _ Q) $$ Hob; iintro Hob
  iapply (store_o c c obM (gob m) oo ho eo _ (read_ob m ho c eo) _ _ _ Q) $$ [Hob]
  · unfold oAny; iexists _; iexact Hob
  iintro Hob
  iapply Hk
  isplitl [Hx Hwq Hwo]; · iframe
  isplitl [Hxb]
  · have e : (xbM.access (Rect.unit (s := S1024x1024) ![0, 0] S1024x1024.size inb_S1024x1024_S1024x1024_0_0)).write (Elt F) fx
        (k0_pay1 ((xM.access (Rect.unit (s := S1x1024x1024) ![0, 0, 0] S1x1024x1024.size inb_S1x1024x1024_S1x1024x1024_0_0_0)).read (Elt F) (xstg m c))) Finset.univ
        = xbOf m c := by
      refine (Memref.write_access_unit_zero_univ (Elt F) cc0_scratch4 zero2 _ _ _).trans ?_
      exact congrArg k0_pay1 (Memref.readAt_unit_zero (Elt F) cc0_stg0_0 zero3 _ _)
    iapply (Idealize.SL.BI.BIBase.Entails.of_eq (congrArg (fun f => bufPt (F := F) c cc0_scratch4 f) e)) $$ Hxb
  iframe

end Cert.KernelIdeal.Attn

end
-- ==== Proof.KernelIdeal.Head.lean ====
/-
# A half: four heads on one slot of weights

One head loads its keys and values and stores its context, 512 rows at a time; after four heads the context buffer
holds the context of all four, whatever it held before. A half then multiplies it with the slot's output weights and
adds the product to the result.
-/
module

public import proofs.«01_k».proof.Proof.KernelIdeal.Stage

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a half computes -/

/-- Entry of a context block, from an entry of the context. -/
def cIx (i : S1024x512.Idx) : S512x128.Idx := fun a => match a with
  | ⟨0, _⟩ => (⟨(i 0 : Fin 1024).val % 512, Nat.mod_lt _ (by decide)⟩ : Fin 512)
  | ⟨1, _⟩ => (⟨(i 1 : Fin 512).val % 128, Nat.mod_lt _ (by decide)⟩ : Fin 128)

/-- The head an entry of the context belongs to. -/
def cHead (i : S1024x512.Idx) : Fin 4 := ⟨(i 1 : Fin 512).val / 128, by have : (i 1 : Fin 512).val < 512 := Fin.isLt _; omega⟩

/-- The upper 512 rows of head `h`'s context. -/
def ctxLo (Q : FVec F S1024x512 .bf16) (kr vr : Fin 4 → Vec F S1x1x1024x1x128 .f32) (h : Fin 4) : FVec F S512x128 .bf16 :=
  k0_pay16 mask (extractStridedSlice S512x128 ![512 * 0, 128 * h.val] Q (slCtx 0 h.val (by decide) h.isLt)) (k0_pay14 (kr h)) (vr h)
/-- The lower 512 rows of head `h`'s context. -/
def ctxHi (Q : FVec F S1024x512 .bf16) (kr vr : Fin 4 → Vec F S1x1x1024x1x128 .f32) (h : Fin 4) : FVec F S512x128 .bf16 :=
  k0_pay18 (k0_pay17 mask (extractStridedSlice S512x128 ![512 * 1, 128 * h.val] Q (slCtx 1 h.val (by decide) h.isLt)) (k0_pay14 (kr h)) (vr h))

/-- The context of four heads. -/
def ctxOf (Q : FVec F S1024x512 .bf16) (kr vr : Fin 4 → Vec F S1x1x1024x1x128 .f32) : Vec F S1024x512 .bf16 := fun i =>
  if (i 0 : Fin 1024).val < 512 then ctxLo Q kr vr (cHead i) (cIx i) else ctxHi Q kr vr (cHead i) (cIx i)

/-- The rectangle of rows `512 r …` of head `h`. -/
abbrev cRect (r h : ℕ) (hr : r < 2) (hh : h < 4) : Rect S1024x512 :=
  Rect.unit (s := S1024x512) ![512 * r, 128 * h] S512x128.size (inbCtx r h hr hh)

theorem cRect_mem (r h : ℕ) (hr : r < 2) (hh : h < 4) (i : S1024x512.Idx) :
    i ∈ (cRect r h hr hh).set ↔ (i 0 : Fin 1024).val / 512 = r ∧ (i 1 : Fin 512).val / 128 = h := by
  rw [Rect.mem_set_unit]
  refine ⟨fun H => ?_, fun ⟨h0, h1⟩ a => ?_⟩
  · have a0 := H 0
    have a1 := H 1
    change 512 * r ≤ (i 0 : Fin 1024).val ∧ (i 0 : Fin 1024).val < 512 * r + 512 at a0
    change 128 * h ≤ (i 1 : Fin 512).val ∧ (i 1 : Fin 512).val < 128 * h + 128 at a1
    omega
  · match a with
    | ⟨0, _⟩ => exact (show 512 * r ≤ (i 0 : Fin 1024).val ∧ (i 0 : Fin 1024).val < 512 * r + 512 by omega)
    | ⟨1, _⟩ => exact (show 128 * h ≤ (i 1 : Fin 512).val ∧ (i 1 : Fin 512).val < 128 * h + 128 by omega)

theorem cRect_emb (r h : ℕ) (hr : r < 2) (hh : h < 4) (x : S512x128.Idx) :
    ((cRect r h hr hh).emb x 0 : Fin 1024).val = 512 * r + (x 0 : Fin 512).val
      ∧ cHead ((cRect r h hr hh).emb x) = ⟨h, hh⟩ ∧ cIx ((cRect r h hr hh).emb x) = x := by
  have h0 : (x 0 : Fin 512).val < 512 := Fin.isLt _
  have h1 : (x 1 : Fin 128).val < 128 := Fin.isLt _
  refine ⟨?_, Fin.ext ?_, funext fun a => ?_⟩
  · show 512 * r + 1 * (x 0 : Fin 512).val = _; omega
  · show (128 * h + 1 * (x 1 : Fin 128).val) / 128 = h; omega
  · match a with
    | ⟨0, _⟩ => exact Fin.ext (show (512 * r + 1 * (x 0 : Fin 512).val) % 512 = (x 0 : Fin 512).val by omega)
    | ⟨1, _⟩ => exact Fin.ext (show (128 * h + 1 * (x 1 : Fin 128).val) % 128 = (x 1 : Fin 128).val by omega)

theorem ctxOf_lo (Q : FVec F S1024x512 .bf16) (kr vr) (h : ℕ) (hh : h < 4) :
    (ctxM.access (cRect 0 h Nat.zero_lt_two hh)).read (Elt F) (ctxOf Q kr vr) = ctxLo Q kr vr ⟨h, hh⟩ := by
  funext x
  obtain ⟨e0, e1, e2⟩ := cRect_emb 0 h (by decide) hh x
  have h0 : (x 0 : Fin 512).val < 512 := Fin.isLt _
  show ctxOf Q kr vr ((cRect 0 h Nat.zero_lt_two hh).emb x) = _
  unfold ctxOf
  rw [if_pos (by rw [e0]; omega), e1, e2]
theorem ctxOf_hi (Q : FVec F S1024x512 .bf16) (kr vr) (h : ℕ) (hh : h < 4) :
    (ctxM.access (cRect 1 h Nat.one_lt_two hh)).read (Elt F) (ctxOf Q kr vr) = ctxHi Q kr vr ⟨h, hh⟩ := by
  funext x
  obtain ⟨e0, e1, e2⟩ := cRect_emb 1 h (by decide) hh x
  show ctxOf Q kr vr ((cRect 1 h Nat.one_lt_two hh).emb x) = _
  unfold ctxOf
  rw [if_neg (by rw [e0]; omega), e1, e2]

/-- Two contents of the context buffer agree on the first `h` heads. -/
def Agree (h : ℕ) (f g : S1024x512.Idx → Elt F .bf16) : Prop := ∀ i : S1024x512.Idx, (i 1 : Fin 512).val / 128 < h → f i = g i

/-- Storing both blocks of head `h` extends an agreement by that head. -/
theorem Agree.step {h : ℕ} (hh : h < 4) {f g : S1024x512.Idx → Elt F .bf16} (H : Agree h f g) :
    Agree (h + 1) ((ctxM.access (cRect 1 h Nat.one_lt_two hh)).write (Elt F)
      ((ctxM.access (cRect 0 h Nat.zero_lt_two hh)).write (Elt F) f ((ctxM.access (cRect 0 h Nat.zero_lt_two hh)).read (Elt F) g) Finset.univ)
      ((ctxM.access (cRect 1 h Nat.one_lt_two hh)).read (Elt F) g) Finset.univ) g := by
  intro i hi
  have h0 : (i 0 : Fin 1024).val < 1024 := Fin.isLt _
  have s : ∀ r (hr : r < 2), (ctxM.access (cRect r h hr hh)).setOn Finset.univ = (cRect r h hr hh).set := fun r hr => View.set_slice_whole cc0_scratch5 _
  rw [View.write_read_eq_piecewise, View.write_read_eq_piecewise]
  by_cases c1 : i ∈ (cRect 1 h Nat.one_lt_two hh).set
  · exact Finset.piecewise_eq_of_mem _ _ _ ((s 1 (by decide)).symm ▸ c1)
  · refine (Finset.piecewise_eq_of_notMem _ _ _ ((s 1 (by decide)).symm ▸ c1)).trans ?_
    by_cases c0 : i ∈ (cRect 0 h Nat.zero_lt_two hh).set
    · exact Finset.piecewise_eq_of_mem _ _ _ ((s 0 (by decide)).symm ▸ c0)
    · refine (Finset.piecewise_eq_of_notMem _ _ _ ((s 0 (by decide)).symm ▸ c0)).trans ?_
      rw [cRect_mem] at c0 c1
      exact H i (by omega)

/-! ## One head -/

theorem kvRow_subset (p k h : ℕ) (hp : p < 2) (hk : k < 4) (hh : h < 4) :
    (kvM.access (Rect.unit (s := S2x4x1024x4x128) ![p, k, 0, h, 0] S1x1x1024x1x128.size (inbKVh p k h hp hk hh))).set ⊆ (kvSlot p k hp hk).view.set := by
  rw [kvSlot_set]
  intro i hi
  have hi' : i ∈ (Rect.unit (s := S2x4x1024x4x128) ![p, k, 0, h, 0] S1x1x1024x1x128.size (inbKVh p k h hp hk hh)).set := by
    have e := View.set_slice_whole cc0_scratch6 (Rect.unit (s := S2x4x1024x4x128) ![p, k, 0, h, 0] S1x1x1024x1x128.size (inbKVh p k h hp hk hh))
    exact e ▸ hi
  rw [Rect.mem_set_unit] at hi'
  refine (kv_mem p k hp hk i).mpr ?_
  have a0 := hi' 0
  have a1 := hi' 1
  change p ≤ (i 0 : Fin 2).val ∧ (i 0 : Fin 2).val < p + 1 at a0
  change k ≤ (i 1 : Fin 4).val ∧ (i 1 : Fin 4).val < k + 1 at a1
  omega

/-- Load from a buffer of which a part is held; `v` names the value read. -/
theorem load_part (c : Dev nD) {cs : CoreSpace} {s : Shape} {e : EltTy} (M : Memref sig .tc (.core cs) s e) (r : Rect s)
    (S : Finset (Idx ((M.access r).loc (c : Thread nD τ)))) (q : PosShare TreeShare)
    (f : Buf (Elt F) ((M.access r).loc (c : Thread nD τ))) (v : r.shape.Idx → Elt F e) (hv : (M.access r).read (Elt F) f = v)
    (hS : (M.access r).set ⊆ S) (hl : M.view.LoadsAt r.toLoadRect)
    {α : Type} (k : (r.shape.Idx → Elt F e) → KProg (F := F) α) (Q : α → sProp 𝕄) :
    ((M.access r).loc (c : Thread nD τ) ↦[S]{q} f) ⊢ iprop((((M.access r).loc (c : Thread nD τ) ↦[S]{q} f) -∗ wpc c (k v) Q)
      -∗ wpc c (Prog.lift (.load M r.toLoadRect hl) >>= k) Q) := by
  subst hv
  exact wp_load_rect 𝒱₀ (c : Thread nD τ) none Set.univ (m := M) (r := r) hS

/-- One head: its context is added to the context buffer. -/
theorem head_spec (c : Dev nD) (Q₀ : FVec F S1024x512 .bf16) (X Y : S4x1024x32x128.Idx → Elt F .f32) (b : Fin 4) (g : Fin 8)
    (p k v : ℕ) (hp : p < 2) (hk : k < 4) (hv : v < 4) (h : ℕ) (hh : h < 4)
    {α : Type} (kk : PUnit → KProg (F := F) α) (Q : α → sProp 𝕄) :
    iprop(kvPt c p k hp hk (kvOf X b g) ∗ kvPt c p v hp hv (kvOf Y b g)
        ∗ ∃ f, ⌜Agree h f (ctxOf Q₀ (kvHead X b g) (kvHead Y b g))⌝ ∗ bufPt (F := F) c cc0_scratch5 f)
      ⊢ iprop(((kvPt c p k hp hk (kvOf X b g) ∗ kvPt c p v hp hv (kvOf Y b g)
          ∗ ∃ f, ⌜Agree (h + 1) f (ctxOf Q₀ (kvHead X b g) (kvHead Y b g))⌝ ∗ bufPt (F := F) c cc0_scratch5 f) -∗ wpc c (kk ⟨⟩) Q)
        -∗ wpc c (head mask Q₀ p k v hp hk hv h hh >>= kk) Q) := by
  unfold kvPt
  iintro ⟨HK, HV, ⟨%f, %hf, Hc⟩⟩ Hk
  iapply (load_part c kvM (Rect.unit (s := S2x4x1024x4x128) ![p, k, 0, h, 0] S1x1x1024x1x128.size (inbKVh p k h hp hk hh)) _ _ _ _
    (read_kv X b g p k h hp hk hh) (kvRow_subset p k h hp hk hh) _ _ Q) $$ HK; iintro HK
  iapply (load_part c kvM (Rect.unit (s := S2x4x1024x4x128) ![p, v, 0, h, 0] S1x1x1024x1x128.size (inbKVh p v h hp hv hh)) _ _ _ _
    (read_kv Y b g p v h hp hv hh) (kvRow_subset p v h hp hv hh) _ _ Q) $$ HV; iintro HV
  iapply (load_part c ctxM (cRect 0 h Nat.zero_lt_two hh) _ _ _ _ rfl (Finset.subset_univ _) _ _ Q) $$ Hc; iintro Hc
  iapply (wp_store 𝒱₀ (c : Thread nD τ) none Set.univ (m := ctxM) (r := cRect 0 h Nat.zero_lt_two hh) (Mk := Finset.univ) (Finset.subset_univ _)) $$ Hc; iintro Hc
  iapply (load_part c ctxM (cRect 1 h Nat.one_lt_two hh) _ _ _ _ rfl (Finset.subset_univ _) _ _ Q) $$ Hc; iintro Hc
  iapply (wp_store 𝒱₀ (c : Thread nD τ) none Set.univ (m := ctxM) (r := cRect 1 h Nat.one_lt_two hh) (Mk := Finset.univ) (Finset.subset_univ _)) $$ Hc; iintro Hc
  iapply Hk
  isplitl [HK]; · iexact HK
  isplitl [HV]; · iexact HV
  iexists _
  isplitr; rotate_left; · iexact Hc
  ipureintro
  have hs := hf.step hh
  rw [ctxOf_lo, ctxOf_hi] at hs
  exact hs

end Cert.KernelIdeal.Attn

end
-- ==== Proof.KernelIdeal.Half.lean ====
/-
# A half, whole

The four heads of one slot of weights in a row, and the product of their context with the slot's output weights, which
starts the result or is added to it.
-/
module

public import proofs.«01_k».proof.Proof.KernelIdeal.Head

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem lt_four (h : Fin 4) : h.val < 4 := h.isLt

/-- The buffers a half works in: the rounded input, the context, and the result so far. -/
def work (c : Dev nD) (f : Vec F S1x1024x1024 .f32) : sProp 𝕄 :=
  iprop(bufPt c cc0_scratch4 (xbOf m c) ∗ bufAny (F := F) c cc0_scratch5 ∗ bufPt (F := F) c cc0_stg3_0 f)

/-- The slots of weights and the blocks of keys and values a half reads. -/
def reads (c s : Dev nD) (q : PosShare TreeShare) (qM : Memref sig .tc .vmem S4x1024x512 .bf16) (oM : Memref sig .tc .vmem S4x512x1024 .bf16)
    (gq : qM.view.ty.Contents (Elt F)) (go : oM.view.ty.Contents (Elt F)) (X Y : S4x1024x32x128.Idx → Elt F .f32) (b : Fin 4) (g : Fin 8)
    (p k v : ℕ) (hp : p < 2) (hk : k < 4) (hv : v < 4) : sProp 𝕄 :=
  iprop((qPt qM c s q gq ∗ oPt oM c s q go) ∗ (kvPt c p k hp hk (kvOf X b g) ∗ kvPt c p v hp hv (kvOf Y b g)))

variable (c s : Dev nD) (q : PosShare TreeShare) (qM : Memref sig .tc .vmem S4x1024x512 .bf16) (oM : Memref sig .tc .vmem S4x512x1024 .bf16)
  (gq : qM.view.ty.Contents (Elt F)) (go : oM.view.ty.Contents (Elt F)) (X Y : S4x1024x32x128.Idx → Elt F .f32) (b : Fin 4) (g : Fin 8)
  (qo oo : Fin 3 → ℕ) (hq : QIn qo) (ho : OIn oo) (p k v : ℕ) (hp : p < 2) (hk : k < 4) (hv : v < 4)
  (eq : qo = ![s.val, 0, 0]) (eo : oo = ![s.val, 0, 0])
  (qv : Vec F S1x1024x512 .bf16) (ov : Vec F S1x512x1024 .bf16)
  (rq : (qM.access (qRect qo hq)).read (Elt F) gq = qv) (ro : (oM.access (oRect oo ho)).read (Elt F) go = ov)

include eq eo rq ro in
/-- Four heads: the output weights and the context of the four. -/
theorem heads_spec (f : Vec F S1x1024x1024 .f32) {α : Type} (kk : FVec F S512x1024 .bf16 × Vec F S1024x512 .bf16 → KProg (F := F) α) (Q : α → sProp 𝕄) :
    iprop(reads c s q qM oM gq go X Y b g p k v hp hk hv ∗ work m c f)
      ⊢ iprop(((reads c s q qM oM gq go X Y b g p k v hp hk hv ∗ work m c f)
          -∗ wpc c (kk (k0_pay10 ov, ctxOf (k0_pay11 qv (xbOf m c)) (kvHead X b g) (kvHead Y b g))) Q)
        -∗ wpc c (heads mask qM oM qo oo hq ho p k v hp hk hv >>= kk) Q) := by
  unfold reads work bufAny
  iintro ⟨⟨⟨Hq, Ho⟩, ⟨HK, HV⟩⟩, ⟨Hx, ⟨%f0, Hc⟩, Hout⟩⟩ Hk
  iapply (load_q c s qM q gq qo hq eq qv rq _ _ Q) $$ Hq; iintro Hq
  iapply (load_o c s oM q go oo ho eo ov ro _ _ Q) $$ Ho; iintro Ho
  iapply (load_part c xbM (Rect.unit (s := S1024x1024) ![0, 0] S1024x1024.size inb_S1024x1024_S1024x1024_0_0) _ _ _ (xbOf m c)
    (Memref.readAt_unit_zero (Elt F) cc0_scratch4 zero2 _ _) (Finset.subset_univ _) _ _ Q) $$ Hx; iintro Hx
  iapply (head_spec c (k0_pay11 qv (xbOf m c)) X Y b g p k v hp hk hv 0 (lt_four (0 : Fin 4)) _ Q) $$ [HK HV Hc]
  · isplitl [HK]; · iexact HK
    isplitl [HV]; · iexact HV
    iexists f0
    isplitr; rotate_left; · iexact Hc
    ipureintro; intro i hi; exact absurd hi (Nat.not_lt_zero _)
  iintro ⟨HK, HV, Hc⟩
  iapply (head_spec c (k0_pay11 qv (xbOf m c)) X Y b g p k v hp hk hv 1 (lt_four (1 : Fin 4)) _ Q) $$ [HK HV Hc]
  · isplitl [HK]; · iexact HK
    isplitl [HV]; · iexact HV
    iexact Hc
  iintro ⟨HK, HV, Hc⟩
  iapply (head_spec c (k0_pay11 qv (xbOf m c)) X Y b g p k v hp hk hv 2 (lt_four (2 : Fin 4)) _ Q) $$ [HK HV Hc]
  · isplitl [HK]; · iexact HK
    isplitl [HV]; · iexact HV
    iexact Hc
  iintro ⟨HK, HV, Hc⟩
  iapply (head_spec c (k0_pay11 qv (xbOf m c)) X Y b g p k v hp hk hv 3 (lt_four (3 : Fin 4)) _ Q) $$ [HK HV Hc]
  · isplitl [HK]; · iexact HK
    isplitl [HV]; · iexact HV
    iexact Hc
  iintro ⟨HK, HV, Hc⟩
  icases Hc with ⟨%f4, %h4, Hc⟩
  have e4 : f4 = ctxOf (k0_pay11 qv (xbOf m c)) (kvHead X b g) (kvHead Y b g) := funext fun i => h4 i (by
    have : (i 1 : Fin 512).val < 512 := Fin.isLt _
    omega)
  subst e4
  iapply (load_part c ctxM (Rect.unit (s := S1024x512) ![0, 0] S1024x512.size inb_S1024x512_S1024x512_0_0) _ _ _
    (ctxOf (k0_pay11 qv (xbOf m c)) (kvHead X b g) (kvHead Y b g))
    (Memref.readAt_unit_zero (Elt F) cc0_scratch5 zero2 _ _) (Finset.subset_univ _) _ _ Q) $$ Hc; iintro Hc
  iapply (load_part c outM (Rect.unit (s := S1x1024x1024) ![0, 0, 0] S1x1024x1024.size inb_S1x1024x1024_S1x1024x1024_0_0_0) _ _ _ f
    (Memref.readAt_unit_zero (Elt F) cc0_stg3_0 zero3 _ _) (Finset.subset_univ _) _ _ Q) $$ Hout; iintro Hout
  iapply Hk
  isplitl [Hq Ho HK HV]; · iframe
  isplitl [Hx]; · iexact Hx
  isplitl [Hc]; · iexists _; iexact Hc
  iexact Hout

/-- Store the result. -/
theorem setOut_spec (f w : Vec F S1x1024x1024 .f32) {α : Type} (kk : PUnit → KProg (F := F) α) (Q : α → sProp 𝕄) :
    bufPt (F := F) c cc0_stg3_0 f ⊢ iprop((bufPt (F := F) c cc0_stg3_0 w -∗ wpc c (kk ⟨⟩) Q) -∗ wpc c (setOut w >>= kk) Q) := by
  iintro H Hk
  iapply (wp_store 𝒱₀ (c : Thread nD τ) none Set.univ (m := outM)
    (r := Rect.unit (s := S1x1024x1024) ![0, 0, 0] S1x1024x1024.size inb_S1x1024x1024_S1x1024x1024_0_0_0) (Mk := Finset.univ) (Finset.subset_univ _)) $$ H
  iintro H
  iapply Hk
  have e := Memref.write_access_unit_zero_univ (Elt F) cc0_stg3_0 zero3 inb_S1x1024x1024_S1x1024x1024_0_0_0 f w
  iapply (Idealize.SL.BI.BIBase.Entails.of_eq (congrArg (fun f => bufPt (F := F) c cc0_stg3_0 f) e)) $$ H

include eq eo rq ro in
/-- The first half: its product is the result. -/
theorem halfFirst_spec (f : Vec F S1x1024x1024 .f32) {α : Type} (kk : PUnit → KProg (F := F) α) (Q : α → sProp 𝕄) :
    iprop(reads c s q qM oM gq go X Y b g p k v hp hk hv ∗ work m c f)
      ⊢ iprop(((reads c s q qM oM gq go X Y b g p k v hp hk hv
            ∗ work m c (k0_pay47 (k0_pay10 ov) (ctxOf (k0_pay11 qv (xbOf m c)) (kvHead X b g) (kvHead Y b g)))) -∗ wpc c (kk ⟨⟩) Q)
        -∗ wpc c (halfFirst mask qM oM qo oo hq ho p k v hp hk hv >>= kk) Q) := by
  rw [show (halfFirst mask qM oM qo oo hq ho p k v hp hk hv >>= kk)
    = (heads mask qM oM qo oo hq ho p k v hp hk hv >>= fun r => setOut (k0_pay47 r.1 r.2) >>= kk) from rfl]
  iintro H Hk
  iapply (heads_spec m c s q qM oM gq go X Y b g qo oo hq ho p k v hp hk hv eq eo qv ov rq ro f _ Q) $$ H
  iintro ⟨Hr, Hw⟩
  unfold work
  icases Hw with ⟨Hx, Hc, Hout⟩
  iapply (setOut_spec c f _ _ Q) $$ Hout; iintro Hout
  iapply Hk
  iframe

include eq eo rq ro in
/-- A later half: its product is added to the result. -/
theorem halfNext_spec (f : Vec F S1x1024x1024 .f32) {α : Type} (kk : PUnit → KProg (F := F) α) (Q : α → sProp 𝕄) :
    iprop(reads c s q qM oM gq go X Y b g p k v hp hk hv ∗ work m c f)
      ⊢ iprop(((reads c s q qM oM gq go X Y b g p k v hp hk hv
            ∗ work m c (k0_pay81 (k0_pay48 f) (k0_pay10 ov) (ctxOf (k0_pay11 qv (xbOf m c)) (kvHead X b g) (kvHead Y b g)))) -∗ wpc c (kk ⟨⟩) Q)
        -∗ wpc c (halfNext mask qM oM qo oo hq ho p k v hp hk hv >>= kk) Q) := by
  rw [show (halfNext mask qM oM qo oo hq ho p k v hp hk hv >>= kk)
    = (Prog.lift (.load outM (Rect.unit (s := S1x1024x1024) ![0, 0, 0] S1x1024x1024.size inb_S1x1024x1024_S1x1024x1024_0_0_0).toLoadRect
        (View.loadsAt_vmem h_S1x1024x1024)) >>= fun acc =>
      heads mask qM oM qo oo hq ho p k v hp hk hv >>= fun r => setOut (k0_pay81 (k0_pay48 acc) r.1 r.2) >>= kk) from rfl]
  unfold work
  iintro ⟨Hr, ⟨Hx, Hc, Hout⟩⟩ Hk
  iapply (load_part c outM (Rect.unit (s := S1x1024x1024) ![0, 0, 0] S1x1024x1024.size inb_S1x1024x1024_S1x1024x1024_0_0_0) _ _ _ f
    (Memref.readAt_unit_zero (Elt F) cc0_stg3_0 zero3 _ _) (Finset.subset_univ _) _ _ Q) $$ Hout; iintro Hout
  iapply (heads_spec m c s q qM oM gq go X Y b g qo oo hq ho p k v hp hk hv eq eo qv ov rq ro f _ Q) $$ [Hr Hx Hc Hout]
  · unfold work; iframe
  iintro ⟨Hr, Hw⟩
  unfold work
  icases Hw with ⟨Hx, Hc, Hout⟩
  iapply (setOut_spec c f _ _ Q) $$ Hout; iintro Hout
  iapply Hk
  iframe

end Cert.KernelIdeal.Attn

end
-- ==== Proof.KernelIdeal.Pair.lean ====
/-
# Query and output weights travel together

Every copy of query weights is followed by the copy of the output weights of the same slot. Here the two are one step:
sent together, awaited together.
-/
module

public import proofs.«01_k».proof.Proof.KernelIdeal.Half

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ)

/-- What device `c` needs to send copy `n`, besides the slots: both duties and its place at the send cell. -/
def toSend (c : Dev nD) (n : Fin 12) : sProp 𝕄 :=
  iprop(dutyTok ER (sndCell c n) 0 false ∗ dutyTok ER (rcvCell (dst n c) n) 0 false ∗ atPos ER (sndCell c n) 0 ∅ 0)
/-- What it has once copy `n` is sent. -/
def sent (c : Dev nD) (n : Fin 12) : sProp 𝕄 := iprop(cred (tallyAt (sndCell c n) () (Nc n)) ∗ atPos ER (sndCell c n) 0 ∅ 0)
/-- What it needs to receive copy `n`. -/
def toRecv (c : Dev nD) (n : Fin 12) : sProp 𝕄 := iprop(cred (tallyAt (rcvCell c n) () (Nc n)) ∗ atPos ER (rcvCell c n) 0 ∅ 0)
/-- A cell is past its only round. -/
def past (g : GSem nD τ sig) : sProp 𝕄 := atPos ER g 1 ∅ 0

/-- A slot of query weights and the slot of output weights that goes with it. -/
def wt (c s : Dev nD) (q : PosShare TreeShare) (qM : Memref sig .tc .vmem S4x1024x512 .bf16) (oM : Memref sig .tc .vmem S4x512x1024 .bf16)
    (gq : qM.view.ty.Contents (Elt F)) (go : oM.view.ty.Contents (Elt F)) : sProp 𝕄 := iprop(qPt qM c s q gq ∗ oPt oM c s q go)
/-- The same two slots with any contents. -/
def wtAny (c s : Dev nD) (qM : Memref sig .tc .vmem S4x1024x512 .bf16) (oM : Memref sig .tc .vmem S4x512x1024 .bf16) : sProp 𝕄 :=
  iprop(qAny (F := F) qM c s ∗ oAny (F := F) oM c s)

theorem wt_any (c s : Dev nD) (qM oM gq go) : (wt c s fullShare qM oM gq go : sProp 𝕄) ⊢ wtAny c s qM oM := by
  unfold wt wtAny qAny oAny
  iintro ⟨Hq, Ho⟩
  isplitl [Hq]; · iexists _; iexact Hq
  iexists _; iexact Ho

/-- A share of two slots splits into its halves. -/
theorem wt_share (c s : Dev nD) (q : PosShare TreeShare) (qM oM gq go) :
    (wt c s q qM oM gq go : sProp 𝕄) ⊣⊢ iprop(wt c s q.left qM oM gq go ∗ wt c s q.right qM oM gq go) := by
  unfold wt qPt oPt
  constructor
  · iintro ⟨Hq, Ho⟩
    ihave ⟨Hq1, Hq2⟩ := (pointsTo_share (PosShare.mem_left_op_right q)).1 $$ Hq
    ihave ⟨Ho1, Ho2⟩ := (pointsTo_share (PosShare.mem_left_op_right q)).1 $$ Ho
    iframe
  · iintro ⟨⟨Hq1, Ho1⟩, ⟨Hq2, Ho2⟩⟩
    isplitl [Hq1 Hq2]
    · iapply (pointsTo_share (PosShare.mem_left_op_right q)).2 $$ [Hq1 Hq2]; iframe
    · iapply (pointsTo_share (PosShare.mem_left_op_right q)).2 $$ [Ho1 Ho2]; iframe

variable (n n' : Fin 12) (c d s : Dev nD) (qM : Memref sig .tc .vmem S4x1024x512 .bf16) (oM : Memref sig .tc .vmem S4x512x1024 .bf16)
  (gq : qM.view.ty.Contents (Elt F)) (go : oM.view.ty.Contents (Elt F))
  (qo oo : Fin 3 → ℕ) (hq : QIn qo) (ho : OIn oo) (wq : (qSlot qM qo hq).view.WordExact) (wo : (oSlot oM oo ho).view.WordExact)
  (eq : qo = ![s.val, 0, 0]) (eo : oo = ![s.val, 0, 0])
  (Nq' : (qSlot qM qo hq).view.dmaCredit = Nc n) (No' : (oSlot oM oo ho).view.dmaCredit = Nc n')
  (pq : ∀ c s q, slotPay m n c s q = qPt qM c s q gq) (po : ∀ c s q, slotPay m n' c s q = oPt oM c s q go)
  (aq : ∀ c s, slotAny (F := F) n c s = qAny qM c s) (ao : ∀ c s, slotAny (F := F) n' c s = oAny oM c s)
  (hsh : shareOf n' = shareOf n)

include eq eo Nq' No' pq po aq ao hsh in
/-- Send both. -/
theorem send_pair (l j : ℕ) (hl : l < 2) (hj : j < 3) (d' : Dev nD) (hd : d = dst n c) (hd' : d' = dst n' c) (hs : sndSlot n c = s) (hs' : sndSlot n' c = s)
    (hS : sndSem l j 0 hl hj (by decide) = sndS n) (hR : rcvSem l j 0 hl hj (by decide) = rcvS n)
    (hS' : sndSem l j 1 hl hj (by decide) = sndS n') (hR' : rcvSem l j 1 hl hj (by decide) = rcvS n')
    (ns : List (Fin 12)) {α : Type} (k : PUnit → KProg (F := F) α) (Q : α → sProp 𝕄) :
    iprop(records m K ∗ wt c s (shareOf n) qM oM gq go ∗ slotAny n (dst n c) s ∗ slotAny n' (dst n' c) s ∗ owe c (owesL c (n :: n' :: ns)) ∗ toSend c n ∗ toSend c n')
      ⊢ iprop(((sent c n ∗ sent c n' ∗ owe c (owesL c ns)) -∗ wpc c (k ⟨⟩) Q)
        -∗ wpc c (sendQ qM qo hq wq d l j hl hj >>= fun _ => sendO oM oo ho wo d' l j hl hj >>= k) Q) := by
  subst hd hd'
  unfold wt toSend sent
  iintro ⟨#Hr, ⟨Hq, Ho⟩, Aq, Ao, HO, ⟨T1, T2, P⟩, ⟨T1', T2', P'⟩⟩ Hk
  iapply (send_q m K n c (dst n c) s qM gq qo hq wq l j hl hj eq rfl hs hS hR Nq' pq aq (owesL c (n' :: ns)) _ Q) $$ [Hq Aq HO T1 T2]
  · rw [pq]
    isplitr; · iexact Hr
    isplitl [Hq]; · iexact Hq
    isplitl [Aq]; · iexact Aq
    isplitl [HO]; · iexact HO
    isplitl [T1]; · iexact T1
    iexact T2
  iintro ⟨C, HO⟩
  iapply (send_o m K n' c (dst n' c) s oM go oo ho wo l j hl hj eo rfl hs' hS' hR' No' po ao (owesL c ns) _ Q) $$ [Ho Ao HO T1' T2']
  · rw [po, hsh]
    isplitr; · iexact Hr
    isplitl [Ho]; · iexact Ho
    isplitl [Ao]; · iexact Ao
    isplitl [HO]; · iexact HO
    isplitl [T1']; · iexact T1'
    iexact T2'
  iintro ⟨C', HO⟩
  iapply Hk
  iframe

include Nq' No' pq po in
/-- Await both. -/
theorem arrive_pair (sR sR' : DmaSem sig) (hR : sR = rcvS n) (hR' : sR' = rcvS n') (hs : rcvSlot n c = s) (hs' : rcvSlot n' c = s) (ns : List (Fin 12))
    (hw : ∀ k ∈ ns, semLv (.dma (rcvS n)) < semLv (.dma (rcvS k))) (hw' : ∀ k ∈ ns, semLv (.dma (rcvS n')) < semLv (.dma (rcvS k)))
    {α : Type} (k : PUnit → KProg (F := F) α) (Q : α → sProp 𝕄) :
    iprop(records m K ∗ levAts L lv ∗ owe c (owesL c ns) ∗ toRecv c n ∗ toRecv c n')
      ⊢ iprop(((owe c (owesL c ns) ∗ past (rcvCell c n) ∗ past (rcvCell c n') ∗ wt c s fullShare qM oM gq go) -∗ wpc c (k ⟨⟩) Q)
        -∗ wpc c (waitQ qM qo hq wq sR >>= fun _ => waitO oM oo ho wo sR' >>= k) Q) := by
  unfold wt toRecv past
  iintro ⟨#Hr, #Hl, HO, ⟨C, P⟩, ⟨C', P'⟩⟩ Hk
  iapply (arrive_q m K n c s qM qo hq wq sR hR hs Nq' (owesL c ns) (mayWait_owesL c _ ns hw) _ Q) $$ [HO C P]
  · isplitr; · iexact Hr
    isplitr; · iexact Hl
    isplitl [C]; · iexact C
    isplitl [HO]; · iexact HO
    iexact P
  iintro ⟨HO, P, Hq⟩
  iapply (arrive_o m K n' c s oM oo ho wo sR' hR' hs' No' (owesL c ns) (mayWait_owesL c _ ns hw') _ Q) $$ [HO C' P']
  · isplitr; · iexact Hr
    isplitr; · iexact Hl
    isplitl [C']; · iexact C'
    isplitl [HO]; · iexact HO
    iexact P'
  iintro ⟨HO, P', Ho⟩
  ihave Hq := (Idealize.SL.BI.BIBase.Entails.of_eq (pq c s fullShare)) $$ Hq
  ihave Ho := (Idealize.SL.BI.BIBase.Entails.of_eq (po c s fullShare)) $$ Ho
  iapply Hk
  iframe

include Nq' No' pq po hsh in
/-- Wait until both have left. -/
theorem leave_pair (sS sS' : DmaSem sig) (hS : sS = sndS n) (hS' : sS' = sndS n') (hs : sndSlot n c = s) (hs' : sndSlot n' c = s)
    {α : Type} (k : PUnit → KProg (F := F) α) (Q : α → sProp 𝕄) :
    iprop(records m K ∗ owe c 0 ∗ sent c n ∗ sent c n')
      ⊢ iprop(((owe c 0 ∗ past (sndCell c n) ∗ past (sndCell c n') ∗ wt c s (shareOf n) qM oM gq go) -∗ wpc c (k ⟨⟩) Q)
        -∗ wpc c (waitQ qM qo hq wq sS >>= fun _ => waitO oM oo ho wo sS' >>= k) Q) := by
  unfold wt sent past
  iintro ⟨#Hr, HO, ⟨C, P⟩, ⟨C', P'⟩⟩ Hk
  iapply (leave_q m K n c s qM qo hq wq sS hS hs Nq' _ Q) $$ [HO C P]
  · isplitr; · iexact Hr
    isplitl [C]; · iexact C
    isplitl [HO]; · iexact HO
    iexact P
  iintro ⟨HO, P, Hq⟩
  iapply (leave_o m K n' c s oM oo ho wo sS' hS' hs' No' _ Q) $$ [HO C' P']
  · isplitr; · iexact Hr
    isplitl [C']; · iexact C'
    isplitl [HO]; · iexact HO
    iexact P'
  iintro ⟨HO, P', Ho⟩
  ihave Hq := (Idealize.SL.BI.BIBase.Entails.of_eq (pq c s (shareOf n))) $$ Hq
  ihave Ho := (Idealize.SL.BI.BIBase.Entails.of_eq ((congrArg (slotPay m n' c s) hsh).trans (po c s (shareOf n)))) $$ Ho
  iapply Hk
  iframe

end Cert.KernelIdeal.Attn

end
-- ==== Proof.KernelIdeal.Step.lean ====
/-
# The result, half by half

The value each half adds to the result, and the three kinds of half the kernel runs, on the weights it holds and on
the keys and values just copied.
-/
module

public import proofs.«01_k».proof.Proof.KernelIdeal.Pair

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The first four heads that go with device `s`'s weights. -/
def gA (s : Dev nD) : Fin 8 := ⟨2 * s.val, by have : s.val < 4 := s.isLt; omega⟩
/-- The last four heads that go with device `s`'s weights. -/
def gB (s : Dev nD) : Fin 8 := ⟨2 * s.val + 1, by have : s.val < 4 := s.isLt; omega⟩

/-- The context of the first half of device `s`'s weights at device `c`. -/
def ctxA (c s : Dev nD) : Vec F S1024x512 .bf16 :=
  ctxOf (k0_pay11 (k0_pay2 (wqLo m s)) (xbOf m c)) (kvHead (keysAt m c) c (gA s)) (kvHead (valsAt m c) c (gA s))
/-- The context of the second half. -/
def ctxB (c s : Dev nD) : Vec F S1024x512 .bf16 :=
  ctxOf (k0_pay11 (k0_pay3 (wqHi m s)) (xbOf m c)) (kvHead (keysAt m c) c (gB s)) (kvHead (valsAt m c) c (gB s))
/-- The result started with the first half of device `s`'s weights. -/
def firstA (c s : Dev nD) : Vec F S1x1024x1024 .f32 := k0_pay47 (k0_pay10 (k0_pay4 (woLo m s))) (ctxA m c s)
/-- The result continued with the first half of device `s`'s weights. -/
def addA (c s : Dev nD) (f : Vec F S1x1024x1024 .f32) : Vec F S1x1024x1024 .f32 := k0_pay81 (k0_pay48 f) (k0_pay10 (k0_pay4 (woLo m s))) (ctxA m c s)
/-- The result continued with the second half of device `s`'s weights. -/
def addB (c s : Dev nD) (f : Vec F S1x1024x1024 .f32) : Vec F S1x1024x1024 .f32 := k0_pay81 (k0_pay48 f) (k0_pay10 (k0_pay5 (woHi m s))) (ctxB m c s)

/-- The result after the device's own weights. -/
def outOwn (c : Dev nD) : Vec F S1x1024x1024 .f32 := addB m c c (firstA m c c)
/-- The result after the first halves to arrive. -/
def outNear (c : Dev nD) : Vec F S1x1024x1024 .f32 := addB m c (right c) (addA m c (left c) (outOwn m c))
/-- The result after both neighbours' weights. -/
def outFar (c : Dev nD) : Vec F S1x1024x1024 .f32 := addA m c (right c) (addB m c (left c) (outNear m c))
/-- The result. -/
def outV (c : Dev nD) : Vec F S1x1024x1024 .f32 := addB m c (opp c) (addA m c (opp c) (outFar m c))

/-- Device `s`'s first slots of weights at device `c`. -/
abbrev wtA (c s : Dev nD) (q : PosShare TreeShare) : sProp 𝕄 := wt c s q qaM oaM (gqa m) (goa m)
/-- Device `s`'s second slots of weights at device `c`. -/
abbrev wtB (c s : Dev nD) (q : PosShare TreeShare) : sProp 𝕄 := wt c s q qbM obM (gqb m) (gob m)

variable (c s : Dev nD) (q : PosShare TreeShare) (qM : Memref sig .tc .vmem S4x1024x512 .bf16) (oM : Memref sig .tc .vmem S4x512x1024 .bf16)
  (gq : qM.view.ty.Contents (Elt F)) (go : oM.view.ty.Contents (Elt F)) (g₁ g₂ : Fin 8)
  (qo oo : Fin 3 → ℕ) (hq : QIn qo) (ho : OIn oo) (p : ℕ) (hp : p < 2)
  (eq : qo = ![s.val, 0, 0]) (eo : oo = ![s.val, 0, 0])
  (qv : Vec F S1x1024x512 .bf16) (ov : Vec F S1x512x1024 .bf16)
  (rq : (qM.access (qRect qo hq)).read (Elt F) gq = qv) (ro : (oM.access (oRect oo ho)).read (Elt F) go = ov)

include eq eo rq ro in
/-- The first half, on the first two blocks of keys and values. -/
theorem first01 (f : Vec F S1x1024x1024 .f32) {α : Type} (kk : PUnit → KProg (F := F) α) (Q : α → sProp 𝕄) :
    iprop(wt c s q qM oM gq go ∗ kvFull m c p hp g₁ g₂ ∗ work m c f)
      ⊢ iprop(((wt c s q qM oM gq go ∗ kvFull m c p hp g₁ g₂
            ∗ work m c (k0_pay47 (k0_pay10 ov) (ctxOf (k0_pay11 qv (xbOf m c)) (kvHead (keysAt m c) c g₁) (kvHead (valsAt m c) c g₁)))) -∗ wpc c (kk ⟨⟩) Q)
        -∗ wpc c (halfFirst mask qM oM qo oo hq ho p 0 1 hp (by decide) (by decide) >>= kk) Q) := by
  unfold wt kvFull
  iintro ⟨⟨Hq, Ho⟩, ⟨⟨H0, H1, H2, H3⟩, Hz⟩, Hw⟩ Hk
  iapply (halfFirst_spec m c s q qM oM gq go (keysAt m c) (valsAt m c) c g₁ qo oo hq ho p 0 1 hp (lt_four (0 : Fin 4)) (lt_four (1 : Fin 4)) eq eo qv ov rq ro f _ Q) $$ [Hq Ho H0 H1 Hw]
  · unfold reads; iframe
  unfold reads
  iintro ⟨⟨⟨Hq, Ho⟩, ⟨H0, H1⟩⟩, Hw⟩
  iapply Hk
  isplitl [Hq Ho]; · iframe
  isplitr [Hw]; · iframe
  iexact Hw

include eq eo rq ro in
/-- A later half, on the first two blocks of keys and values. -/
theorem next01 (f : Vec F S1x1024x1024 .f32) {α : Type} (kk : PUnit → KProg (F := F) α) (Q : α → sProp 𝕄) :
    iprop(wt c s q qM oM gq go ∗ kvFull m c p hp g₁ g₂ ∗ work m c f)
      ⊢ iprop(((wt c s q qM oM gq go ∗ kvFull m c p hp g₁ g₂
            ∗ work m c (k0_pay81 (k0_pay48 f) (k0_pay10 ov) (ctxOf (k0_pay11 qv (xbOf m c)) (kvHead (keysAt m c) c g₁) (kvHead (valsAt m c) c g₁)))) -∗ wpc c (kk ⟨⟩) Q)
        -∗ wpc c (halfNext mask qM oM qo oo hq ho p 0 1 hp (by decide) (by decide) >>= kk) Q) := by
  unfold wt kvFull
  iintro ⟨⟨Hq, Ho⟩, ⟨⟨H0, H1, H2, H3⟩, Hz⟩, Hw⟩ Hk
  iapply (halfNext_spec m c s q qM oM gq go (keysAt m c) (valsAt m c) c g₁ qo oo hq ho p 0 1 hp (lt_four (0 : Fin 4)) (lt_four (1 : Fin 4)) eq eo qv ov rq ro f _ Q) $$ [Hq Ho H0 H1 Hw]
  · unfold reads; iframe
  unfold reads
  iintro ⟨⟨⟨Hq, Ho⟩, ⟨H0, H1⟩⟩, Hw⟩
  iapply Hk
  isplitl [Hq Ho]; · iframe
  isplitr [Hw]; · iframe
  iexact Hw

include eq eo rq ro in
/-- A later half, on the last two blocks of keys and values. -/
theorem next23 (f : Vec F S1x1024x1024 .f32) {α : Type} (kk : PUnit → KProg (F := F) α) (Q : α → sProp 𝕄) :
    iprop(wt c s q qM oM gq go ∗ kvFull m c p hp g₁ g₂ ∗ work m c f)
      ⊢ iprop(((wt c s q qM oM gq go ∗ kvFull m c p hp g₁ g₂
            ∗ work m c (k0_pay81 (k0_pay48 f) (k0_pay10 ov) (ctxOf (k0_pay11 qv (xbOf m c)) (kvHead (keysAt m c) c g₂) (kvHead (valsAt m c) c g₂)))) -∗ wpc c (kk ⟨⟩) Q)
        -∗ wpc c (halfNext mask qM oM qo oo hq ho p 2 3 hp (by decide) (by decide) >>= kk) Q) := by
  unfold wt kvFull
  iintro ⟨⟨Hq, Ho⟩, ⟨⟨H0, H1, H2, H3⟩, Hz⟩, Hw⟩ Hk
  iapply (halfNext_spec m c s q qM oM gq go (keysAt m c) (valsAt m c) c g₂ qo oo hq ho p 2 3 hp (lt_four (2 : Fin 4)) (lt_four (3 : Fin 4)) eq eo qv ov rq ro f _ Q) $$ [Hq Ho H2 H3 Hw]
  · unfold reads; iframe
  unfold reads
  iintro ⟨⟨⟨Hq, Ho⟩, ⟨H2, H3⟩⟩, Hw⟩
  iapply Hk
  isplitl [Hq Ho]; · iframe
  isplitr [Hw]; · iframe
  iexact Hw

end Cert.KernelIdeal.Attn

end
-- ==== Proof.KernelIdeal.Phases.lean ====
/-
# The run of one device, phase by phase

The body at a symbolic device `c`: what each phase needs and what it leaves.
-/
module

public import proofs.«01_k».proof.Proof.KernelIdeal.Step

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

theorem kvOff {off : Fin 4 → ℕ} {n : ℕ} (e : off = ![c.val, 0, n, 0]) (g : Fin 8) (h : n = 4 * g.val) : off = ![c.val, 0, 4 * g.val, 0] := h ▸ e

theorem credit_q (M : Memref sig .tc .vmem S4x1024x512 .bf16) (off : Fin 3 → ℕ) (h : QIn off) {n : ℕ} (hn : n % 2 = 0) :
    (qSlot M off h).view.dmaCredit = Nc n := by
  rw [Nc, if_pos hn]; rfl
theorem credit_o (M : Memref sig .tc .vmem S4x512x1024 .bf16) (off : Fin 3 → ℕ) (h : OIn off) {n : ℕ} (hn : n % 2 = 1) :
    (oSlot M off h).view.dmaCredit = Nc n := by
  rw [Nc, if_neg (by omega)]; rfl

theorem dev_right {d : ℕ} (hd : d < nD) (e : d = (c.val + 1) % 4) (n : Fin 12) (h : n.val < 6) : (⟨d, hd⟩ : Dev nD) = dst n c := by
  unfold dst; rw [if_pos h]; exact Fin.ext e
theorem dev_left {d : ℕ} (hd : d < nD) (e : d = (c.val + 3) % 4) (n : Fin 12) (h : ¬ n.val < 6) : (⟨d, hd⟩ : Dev nD) = dst n c := by
  unfold dst; rw [if_neg h]; exact Fin.ext e

/-- What the handshake needs. -/
def barStart : sProp 𝕄 :=
  iprop(dutyTok ER (barCell (left c)) 0 true ∗ dutyTok ER (barCell (right c)) 0 false ∗ barR (left c) ∗ barL (right c)
    ∗ cred (tallyAt (barCell c) () 2) ∗ atPos ER (barCell c) 0 ∅ 0)

/-- A slot of weights in the three shares the kernel takes of it: two copies leave from it while it is read. -/
theorem wt_three (c s : Dev nD) (qM oM gq go) :
    (wt (F := F) c s fullShare qM oM gq go : sProp 𝕄)
      ⊣⊢ iprop(wt c s fullShare.left qM oM gq go ∗ wt c s fullShare.right.left qM oM gq go ∗ wt c s fullShare.right.right qM oM gq go) := by
  constructor
  · iintro H
    ihave ⟨H1, H2⟩ := (wt_share c s fullShare qM oM gq go).1 $$ H
    ihave ⟨H2, H3⟩ := (wt_share c s fullShare.right qM oM gq go).1 $$ H2
    iframe
  · iintro ⟨H1, H2, H3⟩
    iapply (wt_share c s fullShare qM oM gq go).2
    isplitl [H1]; · iexact H1
    iapply (wt_share c s fullShare.right qM oM gq go).2
    iframe

/-- The first eight copies are under way. -/
def sentOwn : sProp 𝕄 := iprop(sent c 0 ∗ sent c 1 ∗ sent c 6 ∗ sent c 7 ∗ sent c 2 ∗ sent c 3 ∗ sent c 8 ∗ sent c 9)
/-- What they need. -/
def toSendOwn : sProp 𝕄 := iprop(toSend c 0 ∗ toSend c 1 ∗ toSend c 6 ∗ toSend c 7 ∗ toSend c 2 ∗ toSend c 3 ∗ toSend c 8 ∗ toSend c 9)
/-- The last four copies are under way. -/
def sentOn : sProp 𝕄 := iprop(sent c 4 ∗ sent c 5 ∗ sent c 10 ∗ sent c 11)
/-- What they need. -/
def toSendOn : sProp 𝕄 := iprop(toSend c 4 ∗ toSend c 5 ∗ toSend c 10 ∗ toSend c 11)
/-- The slots at the neighbours that the last four copies write. -/
def slotsOn : sProp 𝕄 := iprop(slotAny 4 (right c) (left c) ∗ slotAny 5 (right c) (left c) ∗ slotAny 10 (left c) (right c) ∗ slotAny 11 (left c) (right c))

set_option maxHeartbeats 1600000 in
/-- The handshake, the staging, and the sends of the device's own weights. -/
theorem sendOwn_spec {α : Type} (kk : PUnit → KProg (F := F) α) (Q : α → sProp 𝕄) :
    iprop(records m K ∗ levAts L lv ∗ owe c (O₀ c) ∗ barStart c ∗ staged m c ∗ bufAny (F := F) c cc0_scratch4 ∗ ownAny c ∗ toSendOwn c)
      ⊢ iprop(((owe c (owesL c seqA) ∗ past (barCell c) ∗ slotsOn c ∗ staged m c ∗ bufPt c cc0_scratch4 (xbOf m c) ∗ wtA m c c fullShare.right.right ∗ wtB m c c fullShare.right.right ∗ sentOwn c) -∗ wpc c (kk ⟨⟩) Q) -∗ wpc c (sendOwn c >>= kk) Q) := by
  unfold sendOwn; simp only [bind_assoc]
  unfold barStart toSendOwn sentOwn slotsOn past
  iintro ⟨#Hr, #Hl, HO, ⟨Ht1, Ht2, Hb1, Hb2, Hc, Hat⟩, Hst, Hxb, Hown, ⟨T0, T1, T6, T7, T2, T3, T8, T9⟩⟩ Hk
  iapply (handshake_spec m K c _ _ (Fin.ext (k0_dev1_eq c)) (Fin.ext (k0_dev2_eq c)) _ Q) $$ [HO Ht1 Ht2 Hb1 Hb2 Hc Hat]
  · isplitr; · iexact Hr
    isplitr; · iexact Hl
    iframe
  unfold barL barR
  iintro ⟨HO, Hat, ⟨S6, S7, S8, S9, S10, S11⟩, ⟨S0, S1, S2, S3, S4, S5⟩⟩
  iapply (stageIn_spec m c _ _ _ _ _ _ (k0_off1_eq c) (k0_off2_eq c) _ Q) $$ [Hst Hxb Hown]
  · iframe
  unfold ownFull
  iintro ⟨Hst, Hxb, ⟨Hqa, Hoa, Hqb, Hob⟩⟩
  ihave ⟨A1, A2, A3⟩ := (wt_three c c qaM oaM (gqa m) (goa m)).1 $$ [Hqa Hoa]
  · unfold wt; iframe
  ihave ⟨B1, B2, B3⟩ := (wt_three c c qbM obM (gqb m) (gob m)).1 $$ [Hqb Hob]
  · unfold wt; iframe
  iapply (send_pair m K 0 1 c _ c qaM oaM (gqa m) (goa m) _ _ _ _ _ _ (k0_off3_eq c) (k0_off4_eq c) (credit_q _ _ _ rfl) (credit_o _ _ _ rfl) (fun _ _ _ => rfl) (fun _ _ _ => rfl) (fun _ _ => rfl) (fun _ _ => rfl) rfl 0 0 _ _ _
    (dev_right c _ (k0_dev3_eq c) _ (by decide)) (dev_right c _ (k0_dev4_eq c) _ (by decide)) rfl rfl rfl rfl rfl rfl [6, 7, 2, 3, 8, 9, 4, 5, 10, 11] _ Q) $$ [A1 S0 S1 HO T0 T1]
  · isplitr; · iexact Hr
    isplitl [A1]; · iexact A1
    isplitl [S0]; · iexact S0
    isplitl [S1]; · iexact S1
    isplitl [HO]; · iexact HO
    isplitl [T0]; · iexact T0
    iexact T1
  iintro ⟨F0, F1, HO⟩
  iapply (send_pair m K 6 7 c _ c qbM obM (gqb m) (gob m) _ _ _ _ _ _ (k0_off3_eq c) (k0_off4_eq c) (credit_q _ _ _ rfl) (credit_o _ _ _ rfl) (fun _ _ _ => rfl) (fun _ _ _ => rfl) (fun _ _ => rfl) (fun _ _ => rfl) rfl 1 0 _ _ _
    (dev_left c _ (k0_dev5_eq c) _ (by decide)) (dev_left c _ (k0_dev6_eq c) _ (by decide)) rfl rfl rfl rfl rfl rfl [2, 3, 8, 9, 4, 5, 10, 11] _ Q) $$ [B1 S6 S7 HO T6 T7]
  · isplitr; · iexact Hr
    isplitl [B1]; · iexact B1
    isplitl [S6]; · iexact S6
    isplitl [S7]; · iexact S7
    isplitl [HO]; · iexact HO
    isplitl [T6]; · iexact T6
    iexact T7
  iintro ⟨F6, F7, HO⟩
  iapply (send_pair m K 2 3 c _ c qbM obM (gqb m) (gob m) _ _ _ _ _ _ (k0_off3_eq c) (k0_off4_eq c) (credit_q _ _ _ rfl) (credit_o _ _ _ rfl) (fun _ _ _ => rfl) (fun _ _ _ => rfl) (fun _ _ => rfl) (fun _ _ => rfl) rfl 0 1 _ _ _
    (dev_right c _ (k0_dev7_eq c) _ (by decide)) (dev_right c _ (k0_dev8_eq c) _ (by decide)) rfl rfl rfl rfl rfl rfl [8, 9, 4, 5, 10, 11] _ Q) $$ [B2 S2 S3 HO T2 T3]
  · isplitr; · iexact Hr
    isplitl [B2]; · iexact B2
    isplitl [S2]; · iexact S2
    isplitl [S3]; · iexact S3
    isplitl [HO]; · iexact HO
    isplitl [T2]; · iexact T2
    iexact T3
  iintro ⟨F2, F3, HO⟩
  iapply (send_pair m K 8 9 c _ c qaM oaM (gqa m) (goa m) _ _ _ _ _ _ (k0_off3_eq c) (k0_off4_eq c) (credit_q _ _ _ rfl) (credit_o _ _ _ rfl) (fun _ _ _ => rfl) (fun _ _ _ => rfl) (fun _ _ => rfl) (fun _ _ => rfl) rfl 1 1 _ _ _
    (dev_left c _ (k0_dev9_eq c) _ (by decide)) (dev_left c _ (k0_dev10_eq c) _ (by decide)) rfl rfl rfl rfl rfl rfl [4, 5, 10, 11] _ Q) $$ [A2 S8 S9 HO T8 T9]
  · isplitr; · iexact Hr
    isplitl [A2]; · iexact A2
    isplitl [S8]; · iexact S8
    isplitl [S9]; · iexact S9
    isplitl [HO]; · iexact HO
    isplitl [T8]; · iexact T8
    iexact T9
  iintro ⟨F8, F9, HO⟩
  iapply Hk
  isplitl [HO]; · iexact HO
  isplitl [Hat]; · iexact Hat
  isplitl [S4 S5 S10 S11]
  · isplitl [S4]; · iexact S4
    isplitl [S5]; · iexact S5
    isplitl [S10]; · iexact S10
    iexact S11
  iframe

theorem kv_low (ns : List (Fin 12)) : ∀ (p : ℕ) (hp : p < 2) (i : ℕ) (hi : i < 4), ∀ n ∈ ns, semLv (.dma (kvSem p i hp hi)) < semLv (.dma (rcvS n)) := by
  intro p hp i hi n _
  have h : ∀ (p : Fin 2) (i : Fin 4) (n : Fin 12), semLv (.dma (kvSem p.val i.val p.isLt i.isLt)) < semLv (.dma (rcvS n)) := by decide
  exact h ⟨p, hp⟩ ⟨i, hi⟩ n

/-- The two halves on the device's own weights. -/
theorem stepOwn_spec {α : Type} (kk : PUnit → KProg (F := F) α) (Q : α → sProp 𝕄) :
    iprop(levAts L lv ∗ owe c (owesL c seqA) ∗ heldKV m c ∗ kvIdle c 0 Nat.zero_lt_two ∗ kvIdle c 1 Nat.one_lt_two ∗ wtA m c c fullShare.right.right ∗ wtB m c c fullShare.right.right ∗ ∃ f, work m c f)
      ⊢ iprop(((owe c (owesL c seqA) ∗ heldKV m c ∗ kvIdle c 0 Nat.zero_lt_two ∗ kvBusy m c 1 Nat.one_lt_two (gA (left c)) (gB (right c)) ∗ wtA m c c fullShare.right.right ∗ wtB m c c fullShare.right.right ∗ work m c (outOwn m c)) -∗ wpc c (kk ⟨⟩) Q) -∗ wpc c (stepOwn c >>= kk) Q) := by
  unfold stepOwn; simp only [bind_assoc]
  iintro ⟨#Hl, HO, HKV, I0, I1, WA, WB, ⟨%f, Hw⟩⟩ Hk
  iapply (kvStarts_spec m c _ _ _ _ 0 _ (gA c) (gB c) (kvOff c (k0_off5_eq c 0) (gA c) (by simp only [gA, gB, left, right, opp, Fin.val_zero, Fin.val_one]; omega)) (kvOff c (k0_off5_eq c 1) (gB c) (by simp only [gA, gB, left, right, opp, Fin.val_zero, Fin.val_one]; omega)) _ Q) $$ [HKV I0]
  · iframe
  iintro ⟨HKV, I0⟩
  iapply (kvWaits_spec m c _ _ _ _ 0 _ _ _ seqA (kv_low seqA 0 _) _ Q) $$ [HO I0]
  · isplitr; · iexact Hl
    isplitl [HO]; · iexact HO
    iexact I0
  iintro ⟨HO, I0⟩
  iapply (kvStarts_spec m c _ _ _ _ 1 _ (gA (left c)) (gB (right c)) (kvOff c (k0_off6_eq c 0) (gA (left c)) (by simp only [gA, gB, left, right, opp, Fin.val_zero, Fin.val_one]; omega)) (kvOff c (k0_off7_eq c 0 1) (gB (right c)) (by simp only [gA, gB, left, right, opp, Fin.val_zero, Fin.val_one]; omega)) _ Q) $$ [HKV I1]
  · iframe
  iintro ⟨HKV, I1⟩
  iapply (first01 m c c _ qaM oaM (gqa m) (goa m) (gA c) (gB c) _ _ _ _ 0 _ (k0_off1_eq c) (k0_off2_eq c) _ _ (read_qa m _ c (k0_off1_eq c)) (read_oa m _ c (k0_off2_eq c)) _ _ Q) $$ [WA I0 Hw]
  · iframe
  iintro ⟨WA, I0, Hw⟩
  iapply (next23 m c c _ qbM obM (gqb m) (gob m) (gA c) (gB c) _ _ _ _ 0 _ (k0_off1_eq c) (k0_off2_eq c) _ _ (read_qb m _ c (k0_off1_eq c)) (read_ob m _ c (k0_off2_eq c)) _ _ Q) $$ [WB I0 Hw]
  · iframe
  iintro ⟨WB, I0, Hw⟩
  ihave I0 := (kvFull_idle m c 0 _ (gA c) (gB c)) $$ I0
  iapply Hk
  isplitl [HO]; · iexact HO
  isplitl [HKV]; · iexact HKV
  isplitl [I0]; · iexact I0
  isplitl [I1]; · iexact I1
  isplitl [WA]; · iexact WA
  isplitl [WB]; · iexact WB
  iexact Hw

/-- The arrivals from both neighbours, passed on to the neighbour on the other side. -/
theorem passOn_spec {α : Type} (kk : PUnit → KProg (F := F) α) (Q : α → sProp 𝕄) :
    iprop(records m K ∗ levAts L lv ∗ owe c (owesL c seqA) ∗ (toRecv c 0 ∗ toRecv c 1 ∗ toRecv c 6 ∗ toRecv c 7) ∗ toSendOn c ∗ slotsOn c)
      ⊢ iprop(((owe c 0 ∗ (past (rcvCell c 0) ∗ past (rcvCell c 1) ∗ past (rcvCell c 6) ∗ past (rcvCell c 7)) ∗ sentOn c ∗ wtA m c (left c) fullShare.right ∗ wtB m c (right c) fullShare.right) -∗ wpc c (kk ⟨⟩) Q) -∗ wpc c (passOn c >>= kk) Q) := by
  unfold passOn; simp only [bind_assoc]
  unfold toSendOn slotsOn sentOn
  iintro ⟨#Hr, #Hl, HO, ⟨R0, R1, R6, R7⟩, ⟨T4, T5, T10, T11⟩, ⟨S4, S5, S10, S11⟩⟩ Hk
  iapply (arrive_pair m K 0 1 c (left c) qaM oaM (gqa m) (goa m) _ _ _ _ _ _ (credit_q _ _ _ rfl) (credit_o _ _ _ rfl) (fun _ _ _ => rfl) (fun _ _ _ => rfl) _ _ rfl rfl rfl rfl seqA (by decide) (by decide) _ Q) $$ [HO R0 R1]
  · isplitr; · iexact Hr
    isplitr; · iexact Hl
    isplitl [HO]; · iexact HO
    isplitl [R0]; · iexact R0
    iexact R1
  iintro ⟨HO, P0, P1, WA⟩
  iapply (arrive_pair m K 6 7 c (right c) qbM obM (gqb m) (gob m) _ _ _ _ _ _ (credit_q _ _ _ rfl) (credit_o _ _ _ rfl) (fun _ _ _ => rfl) (fun _ _ _ => rfl) _ _ rfl rfl rfl rfl seqA (by decide) (by decide) _ Q) $$ [HO R6 R7]
  · isplitr; · iexact Hr
    isplitr; · iexact Hl
    isplitl [HO]; · iexact HO
    isplitl [R6]; · iexact R6
    iexact R7
  iintro ⟨HO, P6, P7, WB⟩
  ihave ⟨A1, WA⟩ := (wt_share c (left c) fullShare qaM oaM (gqa m) (goa m)).1 $$ WA
  ihave ⟨B1, WB⟩ := (wt_share c (right c) fullShare qbM obM (gqb m) (gob m)).1 $$ WB
  iapply (send_pair m K 4 5 c _ (left c) qaM oaM (gqa m) (goa m) _ _ _ _ _ _ (k0_off8_eq c) (k0_off9_eq c) (credit_q _ _ _ rfl) (credit_o _ _ _ rfl) (fun _ _ _ => rfl) (fun _ _ _ => rfl) (fun _ _ => rfl) (fun _ _ => rfl) rfl 0 2 _ _ _
    (dev_right c _ (k0_dev11_eq c) _ (by decide)) (dev_right c _ (k0_dev12_eq c) _ (by decide)) rfl rfl rfl rfl rfl rfl [10, 11] _ Q) $$ [A1 S4 S5 HO T4 T5]
  · isplitr; · iexact Hr
    isplitl [A1]; · iexact A1
    isplitl [S4]; · iexact S4
    isplitl [S5]; · iexact S5
    isplitl [HO]; · iexact HO
    isplitl [T4]; · iexact T4
    iexact T5
  iintro ⟨F4, F5, HO⟩
  iapply (send_pair m K 10 11 c _ (right c) qbM obM (gqb m) (gob m) _ _ _ _ _ _ (k0_off10_eq c 0) (k0_off11_eq c 0) (credit_q _ _ _ rfl) (credit_o _ _ _ rfl) (fun _ _ _ => rfl) (fun _ _ _ => rfl) (fun _ _ => rfl) (fun _ _ => rfl) rfl 1 2 _ _ _
    (dev_left c _ (k0_dev13_eq c) _ (by decide)) (dev_left c _ (k0_dev14_eq c) _ (by decide)) rfl rfl rfl rfl rfl rfl [] _ Q) $$ [B1 S10 S11 HO T10 T11]
  · isplitr; · iexact Hr
    isplitl [B1]; · iexact B1
    isplitl [S10]; · iexact S10
    isplitl [S11]; · iexact S11
    isplitl [HO]; · iexact HO
    isplitl [T10]; · iexact T10
    iexact T11
  iintro ⟨F10, F11, HO⟩
  iapply Hk
  isplitl [HO]; · iexact HO
  iframe

/-- The first half of the left neighbour's weights and the second half of the right one's. -/
theorem stepNear_spec {α : Type} (kk : PUnit → KProg (F := F) α) (Q : α → sProp 𝕄) :
    iprop(levAts L lv ∗ owe c 0 ∗ heldKV m c ∗ kvIdle c 0 Nat.zero_lt_two ∗ kvBusy m c 1 Nat.one_lt_two (gA (left c)) (gB (right c)) ∗ wtA m c (left c) fullShare.right ∗ wtB m c (right c) fullShare.right ∗ work m c (outOwn m c))
      ⊢ iprop(((owe c 0 ∗ heldKV m c ∗ kvBusy m c 0 Nat.zero_lt_two (gB (left c)) (gA (right c)) ∗ kvIdle c 1 Nat.one_lt_two ∗ wtA m c (left c) fullShare.right ∗ wtB m c (right c) fullShare.right ∗ work m c (outNear m c)) -∗ wpc c (kk ⟨⟩) Q) -∗ wpc c (stepNear c >>= kk) Q) := by
  unfold stepNear; simp only [bind_assoc]
  iintro ⟨#Hl, HO, HKV, I0, I1, WA, WB, Hw⟩ Hk
  iapply (kvWaits_spec m c _ _ _ _ 1 _ _ _ [] (kv_low [] 1 _) _ Q) $$ [HO I1]
  · isplitr; · iexact Hl
    isplitl [HO]; · iexact HO
    iexact I1
  iintro ⟨HO, I1⟩
  iapply (kvStarts_spec m c _ _ _ _ 0 _ (gB (left c)) (gA (right c)) (kvOff c (k0_off6_eq c 1) (gB (left c)) (by simp only [gA, gB, left, right, opp, Fin.val_zero, Fin.val_one]; omega)) (kvOff c (k0_off7_eq c 0 0) (gA (right c)) (by simp only [gA, gB, left, right, opp, Fin.val_zero, Fin.val_one]; omega)) _ Q) $$ [HKV I0]
  · iframe
  iintro ⟨HKV, I0⟩
  iapply (next01 m c (left c) _ qaM oaM (gqa m) (goa m) (gA (left c)) (gB (right c)) _ _ _ _ 1 _ (k0_off12_eq c) (k0_off13_eq c) _ _ (read_qa m _ (left c) (k0_off12_eq c)) (read_oa m _ (left c) (k0_off13_eq c)) _ _ Q) $$ [WA I1 Hw]
  · iframe
  iintro ⟨WA, I1, Hw⟩
  iapply (next23 m c (right c) _ qbM obM (gqb m) (gob m) (gA (left c)) (gB (right c)) _ _ _ _ 1 _ (k0_off14_eq c 0) (k0_off15_eq c 0) _ _ (read_qb m _ (right c) (k0_off14_eq c 0)) (read_ob m _ (right c) (k0_off15_eq c 0)) _ _ Q) $$ [WB I1 Hw]
  · iframe
  iintro ⟨WB, I1, Hw⟩
  ihave I1 := (kvFull_idle m c 1 _ (gA (left c)) (gB (right c))) $$ I1
  iapply Hk
  isplitl [HO]; · iexact HO
  isplitl [HKV]; · iexact HKV
  isplitl [I0]; · iexact I0
  isplitl [I1]; · iexact I1
  isplitl [WA]; · iexact WA
  isplitl [WB]; · iexact WB
  iexact Hw

/-- The second half of the left neighbour's weights and the first half of the right one's. -/
theorem stepFar_spec {α : Type} (kk : PUnit → KProg (F := F) α) (Q : α → sProp 𝕄) :
    iprop(records m K ∗ levAts L lv ∗ owe c 0 ∗ (toRecv c 2 ∗ toRecv c 3 ∗ toRecv c 8 ∗ toRecv c 9) ∗ heldKV m c ∗ kvBusy m c 0 Nat.zero_lt_two (gB (left c)) (gA (right c)) ∗ kvIdle c 1 Nat.one_lt_two ∗ work m c (outNear m c))
      ⊢ iprop(((owe c 0 ∗ heldKV m c ∗ kvIdle c 0 Nat.zero_lt_two ∗ kvBusy m c 1 Nat.one_lt_two (gA (opp c)) (gB (opp c)) ∗ (past (rcvCell c 2) ∗ past (rcvCell c 3) ∗ past (rcvCell c 8) ∗ past (rcvCell c 9)) ∗ wtB m c (left c) fullShare ∗ wtA m c (right c) fullShare ∗ work m c (outFar m c)) -∗ wpc c (kk ⟨⟩) Q) -∗ wpc c (stepFar c >>= kk) Q) := by
  unfold stepFar; simp only [bind_assoc]
  iintro ⟨#Hr, #Hl, HO, ⟨R2, R3, R8, R9⟩, HKV, I0, I1, Hw⟩ Hk
  iapply (arrive_pair m K 2 3 c (left c) qbM obM (gqb m) (gob m) _ _ _ _ _ _ (credit_q _ _ _ rfl) (credit_o _ _ _ rfl) (fun _ _ _ => rfl) (fun _ _ _ => rfl) _ _ rfl rfl rfl rfl [] (fun _ h => absurd h List.not_mem_nil) (fun _ h => absurd h List.not_mem_nil) _ Q) $$ [HO R2 R3]
  · isplitr; · iexact Hr
    isplitr; · iexact Hl
    isplitl [HO]; · iexact HO
    isplitl [R2]; · iexact R2
    iexact R3
  iintro ⟨HO, P2, P3, WB⟩
  iapply (arrive_pair m K 8 9 c (right c) qaM oaM (gqa m) (goa m) _ _ _ _ _ _ (credit_q _ _ _ rfl) (credit_o _ _ _ rfl) (fun _ _ _ => rfl) (fun _ _ _ => rfl) _ _ rfl rfl rfl rfl [] (fun _ h => absurd h List.not_mem_nil) (fun _ h => absurd h List.not_mem_nil) _ Q) $$ [HO R8 R9]
  · isplitr; · iexact Hr
    isplitr; · iexact Hl
    isplitl [HO]; · iexact HO
    isplitl [R8]; · iexact R8
    iexact R9
  iintro ⟨HO, P8, P9, WA⟩
  iapply (kvWaits_spec m c _ _ _ _ 0 _ _ _ [] (kv_low [] 0 _) _ Q) $$ [HO I0]
  · isplitr; · iexact Hl
    isplitl [HO]; · iexact HO
    iexact I0
  iintro ⟨HO, I0⟩
  iapply (kvStarts_spec m c _ _ _ _ 1 _ (gA (opp c)) (gB (opp c)) (kvOff c (k0_off7_eq c 1 0) (gA (opp c)) (by simp only [gA, gB, left, right, opp, Fin.val_zero, Fin.val_one]; omega)) (kvOff c (k0_off7_eq c 1 1) (gB (opp c)) (by simp only [gA, gB, left, right, opp, Fin.val_zero, Fin.val_one]; omega)) _ Q) $$ [HKV I1]
  · iframe
  iintro ⟨HKV, I1⟩
  iapply (next01 m c (left c) _ qbM obM (gqb m) (gob m) (gB (left c)) (gA (right c)) _ _ _ _ 0 _ (k0_off12_eq c) (k0_off13_eq c) _ _ (read_qb m _ (left c) (k0_off12_eq c)) (read_ob m _ (left c) (k0_off13_eq c)) _ _ Q) $$ [WB I0 Hw]
  · iframe
  iintro ⟨WB, I0, Hw⟩
  iapply (next23 m c (right c) _ qaM oaM (gqa m) (goa m) (gB (left c)) (gA (right c)) _ _ _ _ 0 _ (k0_off14_eq c 0) (k0_off15_eq c 0) _ _ (read_qa m _ (right c) (k0_off14_eq c 0)) (read_oa m _ (right c) (k0_off15_eq c 0)) _ _ Q) $$ [WA I0 Hw]
  · iframe
  iintro ⟨WA, I0, Hw⟩
  ihave I0 := (kvFull_idle m c 0 _ (gB (left c)) (gA (right c))) $$ I0
  iapply Hk
  isplitl [HO]; · iexact HO
  isplitl [HKV]; · iexact HKV
  isplitl [I0]; · iexact I0
  isplitl [I1]; · iexact I1
  isplitl [P2 P3 P8 P9]; · iframe
  isplitl [WB]; · iexact WB
  isplitl [WA]; · iexact WA
  iexact Hw

/-- The two halves on the opposite device's weights. -/
theorem stepOpp_spec {α : Type} (kk : PUnit → KProg (F := F) α) (Q : α → sProp 𝕄) :
    iprop(records m K ∗ levAts L lv ∗ owe c 0 ∗ (toRecv c 4 ∗ toRecv c 5 ∗ toRecv c 10 ∗ toRecv c 11) ∗ kvBusy m c 1 Nat.one_lt_two (gA (opp c)) (gB (opp c)) ∗ work m c (outFar m c))
      ⊢ iprop(((owe c 0 ∗ kvIdle c 1 Nat.one_lt_two ∗ (past (rcvCell c 4) ∗ past (rcvCell c 5) ∗ past (rcvCell c 10) ∗ past (rcvCell c 11)) ∗ wtA m c (opp c) fullShare ∗ wtB m c (opp c) fullShare ∗ work m c (outV m c)) -∗ wpc c (kk ⟨⟩) Q) -∗ wpc c (stepOpp c >>= kk) Q) := by
  unfold stepOpp; simp only [bind_assoc]
  iintro ⟨#Hr, #Hl, HO, ⟨R4, R5, R10, R11⟩, I1, Hw⟩ Hk
  iapply (arrive_pair m K 4 5 c (opp c) qaM oaM (gqa m) (goa m) _ _ _ _ _ _ (credit_q _ _ _ rfl) (credit_o _ _ _ rfl) (fun _ _ _ => rfl) (fun _ _ _ => rfl) _ _ rfl rfl (left_left c) (left_left c) [] (fun _ h => absurd h List.not_mem_nil) (fun _ h => absurd h List.not_mem_nil) _ Q) $$ [HO R4 R5]
  · isplitr; · iexact Hr
    isplitr; · iexact Hl
    isplitl [HO]; · iexact HO
    isplitl [R4]; · iexact R4
    iexact R5
  iintro ⟨HO, P4, P5, WA⟩
  iapply (arrive_pair m K 10 11 c (opp c) qbM obM (gqb m) (gob m) _ _ _ _ _ _ (credit_q _ _ _ rfl) (credit_o _ _ _ rfl) (fun _ _ _ => rfl) (fun _ _ _ => rfl) _ _ rfl rfl (right_right c) (right_right c) [] (fun _ h => absurd h List.not_mem_nil) (fun _ h => absurd h List.not_mem_nil) _ Q) $$ [HO R10 R11]
  · isplitr; · iexact Hr
    isplitr; · iexact Hl
    isplitl [HO]; · iexact HO
    isplitl [R10]; · iexact R10
    iexact R11
  iintro ⟨HO, P10, P11, WB⟩
  iapply (kvWaits_spec m c _ _ _ _ 1 _ _ _ [] (kv_low [] 1 _) _ Q) $$ [HO I1]
  · isplitr; · iexact Hl
    isplitl [HO]; · iexact HO
    iexact I1
  iintro ⟨HO, I1⟩
  iapply (next01 m c (opp c) _ qaM oaM (gqa m) (goa m) (gA (opp c)) (gB (opp c)) _ _ _ _ 1 _ (k0_off14_eq c 1) (k0_off15_eq c 1) _ _ (read_qa m _ (opp c) (k0_off14_eq c 1)) (read_oa m _ (opp c) (k0_off15_eq c 1)) _ _ Q) $$ [WA I1 Hw]
  · iframe
  iintro ⟨WA, I1, Hw⟩
  iapply (next23 m c (opp c) _ qbM obM (gqb m) (gob m) (gA (opp c)) (gB (opp c)) _ _ _ _ 1 _ (k0_off14_eq c 1) (k0_off15_eq c 1) _ _ (read_qb m _ (opp c) (k0_off14_eq c 1)) (read_ob m _ (opp c) (k0_off15_eq c 1)) _ _ Q) $$ [WB I1 Hw]
  · iframe
  iintro ⟨WB, I1, Hw⟩
  ihave I1 := (kvFull_idle m c 1 _ (gA (opp c)) (gB (opp c))) $$ I1
  iapply Hk
  isplitl [HO]; · iexact HO
  isplitl [I1]; · iexact I1
  isplitl [P4 P5 P10 P11]; · iframe
  isplitl [WA]; · iexact WA
  isplitl [WB]; · iexact WB
  iexact Hw

/-- Every send cell is past its round. -/
def pastSends : sProp 𝕄 := iprop(past (sndCell c 0) ∗ past (sndCell c 1) ∗ past (sndCell c 6) ∗ past (sndCell c 7) ∗ past (sndCell c 2) ∗ past (sndCell c 3) ∗ past (sndCell c 8) ∗ past (sndCell c 9) ∗ past (sndCell c 4) ∗ past (sndCell c 5) ∗ past (sndCell c 10) ∗ past (sndCell c 11))

/-- The waits until every copy has left: the shares the copies took come back. -/
theorem drain_spec {α : Type} (kk : PUnit → KProg (F := F) α) (Q : α → sProp 𝕄) :
    iprop(records m K ∗ owe c 0 ∗ sentOwn c ∗ sentOn c)
      ⊢ iprop(((owe c 0 ∗ pastSends c ∗ wtA m c c fullShare.left ∗ wtB m c c fullShare.left ∗ wtB m c c fullShare.right.left ∗ wtA m c c fullShare.right.left ∗ wtA m c (left c) fullShare.left ∗ wtB m c (right c) fullShare.left) -∗ wpc c (kk ⟨⟩) Q) -∗ wpc c (drain c >>= kk) Q) := by
  unfold drain; simp only [bind_assoc]
  unfold sentOwn sentOn pastSends
  iintro ⟨#Hr, HO, ⟨F0, F1, F6, F7, F2, F3, F8, F9⟩, ⟨F4, F5, F10, F11⟩⟩ Hk
  iapply (leave_pair m K 0 1 c c qaM oaM (gqa m) (goa m) _ _ _ _ _ _ (credit_q _ _ _ rfl) (credit_o _ _ _ rfl) (fun _ _ _ => rfl) (fun _ _ _ => rfl) rfl _ _ rfl rfl rfl rfl _ Q) $$ [HO F0 F1]
  · isplitr; · iexact Hr
    iframe
  iintro ⟨HO, P0, P1, W0⟩
  iapply (leave_pair m K 6 7 c c qbM obM (gqb m) (gob m) _ _ _ _ _ _ (credit_q _ _ _ rfl) (credit_o _ _ _ rfl) (fun _ _ _ => rfl) (fun _ _ _ => rfl) rfl _ _ rfl rfl rfl rfl _ Q) $$ [HO F6 F7]
  · isplitr; · iexact Hr
    iframe
  iintro ⟨HO, P6, P7, W6⟩
  iapply (leave_pair m K 2 3 c c qbM obM (gqb m) (gob m) _ _ _ _ _ _ (credit_q _ _ _ rfl) (credit_o _ _ _ rfl) (fun _ _ _ => rfl) (fun _ _ _ => rfl) rfl _ _ rfl rfl rfl rfl _ Q) $$ [HO F2 F3]
  · isplitr; · iexact Hr
    iframe
  iintro ⟨HO, P2, P3, W2⟩
  iapply (leave_pair m K 8 9 c c qaM oaM (gqa m) (goa m) _ _ _ _ _ _ (credit_q _ _ _ rfl) (credit_o _ _ _ rfl) (fun _ _ _ => rfl) (fun _ _ _ => rfl) rfl _ _ rfl rfl rfl rfl _ Q) $$ [HO F8 F9]
  · isplitr; · iexact Hr
    iframe
  iintro ⟨HO, P8, P9, W8⟩
  iapply (leave_pair m K 4 5 c (left c) qaM oaM (gqa m) (goa m) _ _ _ _ _ _ (credit_q _ _ _ rfl) (credit_o _ _ _ rfl) (fun _ _ _ => rfl) (fun _ _ _ => rfl) rfl _ _ rfl rfl rfl rfl _ Q) $$ [HO F4 F5]
  · isplitr; · iexact Hr
    iframe
  iintro ⟨HO, P4, P5, W4⟩
  iapply (leave_pair m K 10 11 c (right c) qbM obM (gqb m) (gob m) _ _ _ _ _ _ (credit_q _ _ _ rfl) (credit_o _ _ _ rfl) (fun _ _ _ => rfl) (fun _ _ _ => rfl) rfl _ _ rfl rfl rfl rfl _ Q) $$ [HO F10 F11]
  · isplitr; · iexact Hr
    iframe
  iintro ⟨HO, P10, P11, W10⟩
  iapply Hk
  isplitl [HO]; · iexact HO
  isplitl [P0 P1 P6 P7 P2 P3 P8 P9 P4 P5 P10 P11]; · iframe
  isplitl [W0]; · iexact W0
  isplitl [W6]; · iexact W6
  isplitl [W2]; · iexact W2
  isplitl [W8]; · iexact W8
  isplitl [W4]; · iexact W4
  iexact W10

end Cert.KernelIdeal.Attn

end
-- ==== Proof.KernelIdeal.Run.lean ====
/-
# The run of one device

The phases in a row. The device deals its weight buffers into slots — its own, those its neighbours write — and has
every buffer whole again at the end, with the result in the result's block.
-/
module

public import proofs.«01_k».proof.Proof.KernelIdeal.Phases

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-! ## The slots, dealt and collected -/

/-- A buffer of query weights, held whole, is dealt into its four slots. -/
theorem q_deal (M : Memref sig .tc .vmem S4x1024x512 .bf16) (hM : M.view.set = Finset.univ) :
    iprop(∃ f : Buf (Elt F) (M.view.loc (c : Thread nD τ)), M.view.loc (c : Thread nD τ) ↦{fullShare} f)
      ⊢ iprop(qAny (F := F) M c c ∗ qAny M c (left c) ∗ qAny M c (right c) ∗ qAny M c (opp c)) := by
  unfold qAny
  iintro ⟨%f, H⟩
  rw [← hM]
  ihave H := (Idealize.SL.BI.BIBase.Entails.of_eq ((q_split M c fullShare f).trans (around c _))) $$ H
  icases H with ⟨H0, H1, H2, H3⟩
  isplitl [H0]; · iexists _; iexact H0
  isplitl [H1]; · iexists _; iexact H1
  isplitl [H2]; · iexists _; iexact H2
  iexists _; iexact H3
/-- Its four slots, of the same contents, make the buffer whole. -/
theorem q_collect (M : Memref sig .tc .vmem S4x1024x512 .bf16) (hM : M.view.set = Finset.univ) (g : M.view.ty.Contents (Elt F)) :
    iprop(qPt M c c fullShare g ∗ qPt M c (left c) fullShare g ∗ qPt M c (right c) fullShare g ∗ qPt M c (opp c) fullShare g)
      ⊢ iprop(∃ f : Buf (Elt F) (M.view.loc (c : Thread nD τ)), M.view.loc (c : Thread nD τ) ↦{fullShare} f) := by
  have e := (q_split M c fullShare g).trans (around c _)
  rw [hM] at e
  iintro H
  iexists g
  iapply (Idealize.SL.BI.BIBase.Entails.of_eq e.symm) $$ H

/-- A buffer of output weights, held whole, is dealt into its four slots. -/
theorem o_deal (M : Memref sig .tc .vmem S4x512x1024 .bf16) (hM : M.view.set = Finset.univ) :
    iprop(∃ f : Buf (Elt F) (M.view.loc (c : Thread nD τ)), M.view.loc (c : Thread nD τ) ↦{fullShare} f)
      ⊢ iprop(oAny (F := F) M c c ∗ oAny M c (left c) ∗ oAny M c (right c) ∗ oAny M c (opp c)) := by
  unfold oAny
  iintro ⟨%f, H⟩
  rw [← hM]
  ihave H := (Idealize.SL.BI.BIBase.Entails.of_eq ((o_split M c fullShare f).trans (around c _))) $$ H
  icases H with ⟨H0, H1, H2, H3⟩
  isplitl [H0]; · iexists _; iexact H0
  isplitl [H1]; · iexists _; iexact H1
  isplitl [H2]; · iexists _; iexact H2
  iexists _; iexact H3
/-- Its four slots, of the same contents, make the buffer whole. -/
theorem o_collect (M : Memref sig .tc .vmem S4x512x1024 .bf16) (hM : M.view.set = Finset.univ) (g : M.view.ty.Contents (Elt F)) :
    iprop(oPt M c c fullShare g ∗ oPt M c (left c) fullShare g ∗ oPt M c (right c) fullShare g ∗ oPt M c (opp c) fullShare g)
      ⊢ iprop(∃ f : Buf (Elt F) (M.view.loc (c : Thread nD τ)), M.view.loc (c : Thread nD τ) ↦{fullShare} f) := by
  have e := (o_split M c fullShare g).trans (around c _)
  rw [hM] at e
  iintro H
  iexists g
  iapply (Idealize.SL.BI.BIBase.Entails.of_eq e.symm) $$ H

/-- The slots handed to the left neighbour. -/
theorem barR_left : barR (F := F) (left c) = iprop(qAny qaM c (left c) ∗ oAny oaM c (left c) ∗ qAny qbM c (left c) ∗ oAny obM c (left c)
    ∗ qAny qaM c (opp c) ∗ oAny oaM c (opp c)) := by
  unfold barR
  rw [right_left, show sndSlot 4 (left c) = opp c from left_left c, show sndSlot 5 (left c) = opp c from left_left c]
  rfl
/-- The slots handed to the right neighbour. -/
theorem barL_right : barL (F := F) (right c) = iprop(qAny qbM c (right c) ∗ oAny obM c (right c) ∗ qAny qaM c (right c) ∗ oAny oaM c (right c)
    ∗ qAny qbM c (opp c) ∗ oAny obM c (opp c)) := by
  unfold barL
  rw [left_right, show sndSlot 10 (right c) = opp c from right_right c, show sndSlot 11 (right c) = opp c from right_right c]
  rfl

/-- The four weight buffers are dealt: to the left neighbour, to the right one, and kept. -/
theorem deal : iprop(bufAny (F := F) c cc0_scratch0 ∗ bufAny (F := F) c cc0_scratch1 ∗ bufAny (F := F) c cc0_scratch2 ∗ bufAny (F := F) c cc0_scratch3)
      ⊢ iprop(barR (left c) ∗ barL (right c) ∗ ownAny (F := F) c) := by
  rw [barR_left, barL_right]
  unfold ownAny bufAny
  iintro ⟨H0, H1, H2, H3⟩
  ihave ⟨A0, A1, A2, A3⟩ := (q_deal c qaM (View.set_whole _)) $$ H0
  ihave ⟨B0, B1, B2, B3⟩ := (o_deal c oaM (View.set_whole _)) $$ H1
  ihave ⟨C0, C1, C2, C3⟩ := (q_deal c qbM (View.set_whole _)) $$ H2
  ihave ⟨D0, D1, D2, D3⟩ := (o_deal c obM (View.set_whole _)) $$ H3
  isplitl [A1 B1 C1 D1 A3 B3]; · iframe
  isplitl [A2 B2 C2 D2 C3 D3]; · iframe
  iframe

/-- All slots back, each with its device's weights, make the four buffers whole. -/
theorem collect : iprop((wtA m c c fullShare ∗ wtA m c (left c) fullShare ∗ wtA m c (right c) fullShare ∗ wtA m c (opp c) fullShare)
        ∗ (wtB m c c fullShare ∗ wtB m c (left c) fullShare ∗ wtB m c (right c) fullShare ∗ wtB m c (opp c) fullShare))
      ⊢ iprop(bufAny (F := F) c cc0_scratch0 ∗ bufAny (F := F) c cc0_scratch1 ∗ bufAny (F := F) c cc0_scratch2 ∗ bufAny (F := F) c cc0_scratch3) := by
  unfold wtA wtB wt bufAny
  iintro ⟨⟨⟨A0, B0⟩, ⟨A1, B1⟩, ⟨A2, B2⟩, ⟨A3, B3⟩⟩, ⟨⟨C0, D0⟩, ⟨C1, D1⟩, ⟨C2, D2⟩, ⟨C3, D3⟩⟩⟩
  isplitl [A0 A1 A2 A3]
  · iapply (q_collect c qaM (View.set_whole _) (gqa m)) $$ [A0 A1 A2 A3]; iframe
  isplitl [B0 B1 B2 B3]
  · iapply (o_collect c oaM (View.set_whole _) (goa m)) $$ [B0 B1 B2 B3]; iframe
  isplitl [C0 C1 C2 C3]
  · iapply (q_collect c qbM (View.set_whole _) (gqb m)) $$ [C0 C1 C2 C3]; iframe
  · iapply (o_collect c obM (View.set_whole _) (gob m)) $$ [D0 D1 D2 D3]; iframe

/-! ## The run -/

/-- The kernel's scratch buffers, whole, with any contents. -/
def scratch : sProp 𝕄 :=
  iprop(bufAny (F := F) c cc0_scratch0 ∗ bufAny (F := F) c cc0_scratch1 ∗ bufAny (F := F) c cc0_scratch2 ∗ bufAny (F := F) c cc0_scratch3
    ∗ bufAny (F := F) c cc0_scratch4 ∗ bufAny (F := F) c cc0_scratch5 ∗ bufAny (F := F) c cc0_scratch6)

/-- The device's tokens, credits and places at the cells, at launch. -/
def tokens : sProp 𝕄 :=
  iprop((dutyTok ER (barCell (left c)) 0 true ∗ dutyTok ER (barCell (right c)) 0 false ∗ cred (tallyAt (barCell c) () 2) ∗ atPos ER (barCell c) 0 ∅ 0)
    ∗ toSendOwn c ∗ toSendOn c ∗ (toRecv c 0 ∗ toRecv c 1 ∗ toRecv c 6 ∗ toRecv c 7) ∗ (toRecv c 2 ∗ toRecv c 3 ∗ toRecv c 8 ∗ toRecv c 9)
    ∗ (toRecv c 4 ∗ toRecv c 5 ∗ toRecv c 10 ∗ toRecv c 11))

/-- Every cell of the device is past its only round. -/
def allPast : sProp 𝕄 :=
  iprop(past (barCell c) ∗ pastSends c ∗ (past (rcvCell c 0) ∗ past (rcvCell c 1) ∗ past (rcvCell c 6) ∗ past (rcvCell c 7))
    ∗ (past (rcvCell c 2) ∗ past (rcvCell c 3) ∗ past (rcvCell c 8) ∗ past (rcvCell c 9))
    ∗ (past (rcvCell c 4) ∗ past (rcvCell c 5) ∗ past (rcvCell c 10) ∗ past (rcvCell c 11)))

/-- The semaphores of the local copies are at zero. -/
def kvZeros : sProp 𝕄 := iprop(kvZero (F := F) c 0 Nat.zero_lt_two ∗ kvZero (F := F) c 1 Nat.one_lt_two)

theorem kv_open : iprop(bufAny (F := F) c cc0_scratch6 ∗ kvZeros (F := F) c) ⊢ iprop(kvIdle (F := F) c 0 Nat.zero_lt_two ∗ kvIdle (F := F) c 1 Nat.one_lt_two) := by
  unfold bufAny kvZeros kvIdle
  iintro ⟨⟨%f, H⟩, ⟨Z0, Z1⟩⟩
  ihave H := (kv_split c f) $$ H
  unfold kvAll
  icases H with ⟨H0, H1⟩
  isplitl [H0 Z0]
  · isplitl [H0]; · iexact H0
    iexact Z0
  · isplitl [H1]; · iexact H1
    iexact Z1
theorem kv_shut : iprop(kvIdle (F := F) c 0 Nat.zero_lt_two ∗ kvIdle (F := F) c 1 Nat.one_lt_two) ⊢ iprop(bufAny (F := F) c cc0_scratch6 ∗ kvZeros (F := F) c) := by
  unfold bufAny kvZeros kvIdle
  iintro ⟨⟨H0, Z0⟩, ⟨H1, Z1⟩⟩
  isplitl [H0 H1]
  · iapply (kv_join c) $$ [H0 H1]
    unfold kvAll
    isplitl [H0]; · iexact H0
    iexact H1
  · isplitl [Z0]; · iexact Z0
    iexact Z1

/-- What the body needs. -/
def bodyPre : sProp 𝕄 :=
  iprop(records m K ∗ levAts L lv ∗ owe c (O₀ c) ∗ tokens c ∗ heldKV m c ∗ kvZeros c ∗ staged m c ∗ bufAny (F := F) c cc0_stg3_0 ∗ scratch c)
/-- What the body leaves. -/
def bodyPost : sProp 𝕄 :=
  iprop(owe c 0 ∗ allPast c ∗ heldKV m c ∗ kvZeros c ∗ staged m c ∗ bufPt (F := F) c cc0_stg3_0 (outV m c) ∗ scratch c)

/-- A program that is over. -/
theorem wpc_pure (Q : PUnit → sProp 𝕄) : Q ⟨⟩ ⊢ wpc (F := F) c (pure ⟨⟩) Q := by
  show Q ⟨⟩ ⊢ wp _ _ _ (.ret PUnit.unit) Q
  rw [wp_ret]
  exact fupd_intro
/-- Reading the device's own index costs nothing. -/
theorem body_run (Q : PUnit → sProp 𝕄) : wpc c (body (F := F)) Q = wpc c (phases (F := F) c) Q := by
  have h : (body (F := F)) = .op .deviceId (fun d => phases (F := F) d) := by with_unfolding_all rfl
  rw [h]
  unfold wpc
  rw [wp_deviceId]
theorem phases_eq : phases (F := F) c = (sendOwn c >>= fun _ => stepOwn c >>= fun _ => passOn c >>= fun _ => stepNear c >>= fun _ => stepFar c >>= fun _ =>
    stepOpp c >>= fun _ => drain c >>= pure) := by
  rw [bind_pure (drain (F := F) c)]
  rfl

set_option maxHeartbeats 1600000 in
/-- The body of device `c` runs from the one to the other. -/
theorem body_spec : bodyPre m K c ⊢ wpc c (body (F := F)) fun _ => bodyPost m c := by
  rw [body_run]
  rw [phases_eq]
  unfold bodyPre bodyPost tokens allPast scratch
  iintro ⟨#Hr, #Hl, HO, ⟨⟨Ht1, Ht2, Hc, Hat⟩, TS, TN, Ra, Rb, Rc⟩, HKV, Hz, Hst, Hout, ⟨S0, S1, S2, S3, Sx, Sc, Skv⟩⟩
  ihave ⟨%f0, Hout⟩ := (Idealize.SL.BI.BIBase.Entails.of_eq (show bufAny (F := F) c cc0_stg3_0 = iprop(∃ f, bufPt c cc0_stg3_0 f) from rfl)) $$ Hout
  ihave ⟨Hb1, Hb2, Hown⟩ := (deal c) $$ [S0 S1 S2 S3]
  · iframe
  ihave ⟨I0, I1⟩ := (kv_open c) $$ [Skv Hz]
  · iframe
  iapply (sendOwn_spec m K c _ _) $$ [HO Ht1 Ht2 Hb1 Hb2 Hc Hat Hst Sx Hown TS]
  · unfold barStart
    isplitr; · iexact Hr
    isplitr; · iexact Hl
    isplitl [HO]; · iexact HO
    iframe
  iintro ⟨HO, Pb, Sl, Hst, Hxb, WA, WB, FS⟩
  iapply (stepOwn_spec m c _ _) $$ [HO HKV I0 I1 WA WB Hxb Sc Hout]
  · isplitr; · iexact Hl
    isplitl [HO]; · iexact HO
    isplitl [HKV]; · iexact HKV
    isplitl [I0]; · iexact I0
    isplitl [I1]; · iexact I1
    isplitl [WA]; · iexact WA
    isplitl [WB]; · iexact WB
    iexists f0
    unfold work
    iframe
  iintro ⟨HO, HKV, I0, I1, WA, WB, Hw⟩
  iapply (passOn_spec m K c _ _) $$ [HO Ra TN Sl]
  · isplitr; · iexact Hr
    isplitr; · iexact Hl
    iframe
  iintro ⟨HO, Pa, FN, WAl, WBr⟩
  iapply (stepNear_spec m c _ _) $$ [HO HKV I0 I1 WAl WBr Hw]
  · isplitr; · iexact Hl
    iframe
  iintro ⟨HO, HKV, I0, I1, WAl, WBr, Hw⟩
  iapply (stepFar_spec m K c _ _) $$ [HO Rb HKV I0 I1 Hw]
  · isplitr; · iexact Hr
    isplitr; · iexact Hl
    iframe
  iintro ⟨HO, HKV, I0, I1, Pm, WBl, WAr, Hw⟩
  iapply (stepOpp_spec m K c _ _) $$ [HO Rc I1 Hw]
  · isplitr; · iexact Hr
    isplitr; · iexact Hl
    iframe
  iintro ⟨HO, I1, Pz, WAo, WBo, Hw⟩
  iapply (drain_spec m K c _ _) $$ [HO FS FN]
  · isplitr; · iexact Hr
    iframe
  iintro ⟨HO, Ps, A1, B1, B2, A2, Al, Br⟩
  ihave WA := (wt_three c c qaM oaM (gqa m) (goa m)).2 $$ [A1 A2 WA]
  · iframe
  ihave WB := (wt_three c c qbM obM (gqb m) (gob m)).2 $$ [B1 B2 WB]
  · iframe
  ihave WAl := (wt_share c (left c) fullShare qaM oaM (gqa m) (goa m)).2 $$ [Al WAl]
  · iframe
  ihave WBr := (wt_share c (right c) fullShare qbM obM (gqb m) (gob m)).2 $$ [Br WBr]
  · iframe
  ihave ⟨S0, S1, S2, S3⟩ := (collect m c) $$ [WA WAl WAr WAo WB WBl WBr WBo]
  · isplitl [WA WAl WAr WAo]; · iframe
    iframe
  ihave ⟨Skv, Hz⟩ := (kv_shut c) $$ [I0 I1]
  · iframe
  unfold work
  icases Hw with ⟨Hxb, Sc, Hout⟩
  iapply (wpc_pure c _)
  isplitl [HO]; · iexact HO
  isplitl [Pb Ps Pa Pm Pz]; · iframe
  isplitl [HKV]; · iexact HKV
  isplitl [Hz]; · iexact Hz
  isplitl [Hst]; · iexact Hst
  isplitl [Hout]; · iexact Hout
  isplitl [S0]; · iexact S0
  isplitl [S1]; · iexact S1
  isplitl [S2]; · iexact S2
  isplitl [S3]; · iexact S3
  isplitl [Hxb]; · unfold bufAny; iexists _; iexact Hxb
  isplitl [Sc]; · iexact Sc
  iexact Skv

end Cert.KernelIdeal.Attn

end
-- ==== Proof.KernelIdeal.Ghost.lean ====
/-
# Setting up the cells

Every device has twenty-five cells: its twelve sends, its twelve receives and its barrier. Their tokens are minted at
launch and dealt to the devices that pay the duties; the launch credit is dealt to the devices that wait.
-/
module

public import proofs.«01_k».proof.Proof.KernelIdeal.Run
public import Idealize.ShloMosaic.Lib.Pipeline.BigSepL

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-! ## The cells -/

/-- The cell of send `n` and the cell of receive `n`. -/
abbrev kS (n : Fin 12) : Fin 25 := ⟨n.val, by have := n.isLt; omega⟩
abbrev kR (n : Fin 12) : Fin 25 := ⟨12 + n.val, by have := n.isLt; omega⟩

theorem csem_inj : Function.Injective csem := by decide
theorem csem_kS : ∀ n : Fin 12, csem (kS n) = .dma (sndS n) := by decide
theorem csem_kR : ∀ n : Fin 12, csem (kR n) = .dma (rcvS n) := by decide
theorem csem_bar : csem 24 = .reg barSem := by decide
theorem kcell_kS (n : Fin 12) : kcell (c, kS n) = sndCell c n := congrArg (Prod.mk (c : Thread nD τ)) (csem_kS n)
theorem kcell_kR (n : Fin 12) : kcell (c, kR n) = rcvCell c n := congrArg (Prod.mk (c : Thread nD τ)) (csem_kR n)
theorem kcell_bar : kcell (c, 24) = barCell c := congrArg (Prod.mk (c : Thread nD τ)) csem_bar
theorem kcell_inj : Function.Injective (kcell : Dev nD × Fin 25 → GSem nD τ sig) := fun a b h =>
  Prod.ext (congrArg (fun g : GSem nD τ sig => g.1.1) h) (csem_inj (congrArg Prod.snd h))

/-- A family over the cells of a device, by kinds of cell. -/
theorem cells_split (Φ : GSem nD τ sig → sProp 𝕄) : bigSep Finset.univ (fun k : Fin 25 => Φ (kcell (c, k)))
    = iprop((bigSep Finset.univ fun n : Fin 12 => Φ (sndCell c n)) ∗ (bigSep Finset.univ fun n : Fin 12 => Φ (rcvCell c n)) ∗ Φ (barCell c)) := by
  rw [bigSep_univ_eq_bigSepL (seqL.map kS ++ (seqL.map kR ++ [24])) (by decide) (by decide), bigSepL_append, bigSepL_append,
    bigSepL_map, bigSepL_map, bigSep_univ_eq_bigSepL seqL (by decide) (by decide), bigSep_univ_eq_bigSepL seqL (by decide) (by decide)]
  simp only [kcell_kS, kcell_kR]
  rw [bigSepL_singleton, kcell_bar]

/-! ## The semaphores of the kernel -/

/-- The kernel's own semaphores: those of the local copies, the sends, the receives. -/
abbrev osem (k : Fin 32) : SemLoc sig := .dma ⟨4 + k.val, show 4 + k.val < 36 by have := k.isLt; omega⟩

abbrev oS (n : Fin 12) : Fin 32 := ⟨8 + n.val, by have := n.isLt; omega⟩
abbrev oR (n : Fin 12) : Fin 32 := ⟨20 + n.val, by have := n.isLt; omega⟩

theorem own_eq : (Pipeline.ownSems0 (Ix := Unit) (Name := ℕ) (U := UU) (Lvl := ℕ) (Val := Elt F) (τ := τ) osem c : sProp 𝕄)
    = iprop(kvZeros c ∗ (bigSep Finset.univ fun n : Fin 12 => semVal (sndCell c n) 0) ∗ (bigSep Finset.univ fun n : Fin 12 => semVal (rcvCell c n) 0)) := by
  rw [Pipeline.ownSems0_eq_of_list c osem ([0, 1, 2, 3] ++ ([4, 5, 6, 7] ++ (seqL.map oS ++ seqL.map oR))) (by decide) (by decide), bigSepL_append, bigSepL_append, bigSepL_append,
    bigSepL_map, bigSepL_map, bigSep_univ_eq_bigSepL seqL (by decide) (by decide), bigSep_univ_eq_bigSepL seqL (by decide) (by decide)]
  have h1 : ∀ n : Fin 12, osem (oS n) = .dma (sndS n) := by decide
  have h2 : ∀ n : Fin 12, osem (oR n) = .dma (rcvS n) := by decide
  simp only [h1, h2]
  unfold kvZeros
  rw [show ∀ P Q R : sProp 𝕄, iprop((P ∗ Q) ∗ R) = iprop(P ∗ Q ∗ R) from fun P Q R => BI.Entails.antisymm BI.sep_assoc BI.sep_assoc']
  rfl
theorem unscoped_eq : (unscopedSems0 c : sProp 𝕄) = semVal (barCell c) 0 := by
  unfold unscopedSems0; rw [bigSep_eq_bigSepL_of_eq [SemLoc.reg barSem] (by decide) (by decide)]; rfl

/-- Every cell's counter is at zero. -/
def allZero : sProp 𝕄 := bigSep Finset.univ fun k : Fin 25 => semVal (kcell (c, k)) 0

theorem sems_open : iprop(Pipeline.ownSems0 (Ix := Unit) (Name := ℕ) (U := UU) (Lvl := ℕ) (Val := Elt F) (τ := τ) osem c ∗ unscopedSems0 c)
    ⊢ iprop(kvZeros (F := F) c ∗ allZero c) := by
  unfold allZero
  rw [own_eq, unscoped_eq, cells_split c (fun g => semVal g 0)]
  iintro ⟨⟨A, B, C⟩, D⟩
  iframe
theorem sems_shut : iprop(kvZeros (F := F) c ∗ allZero c)
    ⊢ iprop(unscopedSems0 c ∗ Pipeline.ownSems0 (Ix := Unit) (Name := ℕ) (U := UU) (Lvl := ℕ) (Val := Elt F) (τ := τ) osem c) := by
  unfold allZero
  rw [own_eq, unscoped_eq, cells_split c (fun g => semVal g 0)]
  iintro ⟨A, B, C, D⟩
  iframe

/-! ## Closing the cells -/

theorem bigSep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem past_cells : allPast (F := F) c ⊢ bigSep Finset.univ fun k : Fin 25 => past (F := F) (kcell (c, k)) := by
  rw [cells_split c (fun g => past g), bigSep_univ_eq_bigSepL seqL (by decide) (by decide), bigSep_univ_eq_bigSepL seqL (by decide) (by decide)]
  rw [show (bigSepL seqL fun n => past (F := F) (sndCell c n)) = pastSends c from rfl,
    show (bigSepL seqL fun n => past (F := F) (rcvCell c n)) = bigSepL ([0, 1, 6, 7] ++ ([2, 3, 8, 9] ++ [4, 5, 10, 11])) (fun n => past (F := F) (rcvCell c n)) from rfl,
    bigSepL_append, bigSepL_append]
  unfold allPast
  simp only [bigSepL]
  iintro ⟨A, B, C, D, E⟩
  isplitl [B]; · iexact B
  isplitr [A]
  · isplitl [C]; · iexact C
    isplitl [D]; · iexact D
    iexact E
  · iexact A

/-- Past their only rounds the cells close: the counters are at zero. -/
theorem close_cells : iprop(records m K ∗ allPast c) ⊢ |={Set.univ}=> allZero (F := F) c := by
  refine (sep_mono_right (past_cells c)).trans ?_
  unfold allZero
  refine (bigSep_persist (R := records m K) fun k _ => ?_).trans (bigSep_fupd _ _)
  iintro ⟨#Hr, H⟩
  ihave #⟨Hi, -⟩ := (rec_cell m K (c, k)) $$ Hr
  unfold past
  iapply (Rounds.cell_close ER (Rd m) (Set.mem_univ (K (c, k))) (fun h => h) (R := 1) (duties_later m (kcell (c, k)))) $$ [H]
  isplitr; · iexact Hi
  iexact H

/-! ## The tokens -/

def theCells : Finset (GSem nD τ sig) := Finset.univ.map ⟨kcell, kcell_inj⟩
abbrev tokOf (x : (Dev nD × Fin 25) × Bool) : GSem nD τ sig × ℕ × Bool := (kcell x.1, 0, x.2)
theorem tokOf_inj : Function.Injective tokOf := fun a b h =>
  Prod.ext (kcell_inj (congrArg Prod.fst h)) (congrArg (fun y : GSem nD τ sig × ℕ × Bool => y.2.2) h)
def theToks : Finset (GSem nD τ sig × ℕ × Bool) := Finset.univ.map ⟨tokOf, tokOf_inj⟩

/-- The ghost state at launch. -/
def u₀ : UU :=
  (initOf (Pipeline.cells (cfgs) cellOf_inj) (Pipeline.launchToks (cfgs) cellOf_inj), (initOf theCells theToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The places and the duty tokens of a device's own cells. -/
def minted : sProp 𝕄 :=
  iprop((bigSep Finset.univ fun k : Fin 25 => atPos ER (kcell (c, k)) 0 ∅ 0) ∗ (bigSep Finset.univ fun k : Fin 25 => dutyTok ER (kcell (c, k)) 0 false)
    ∗ (bigSep Finset.univ fun k : Fin 25 => dutyTok ER (kcell (c, k)) 0 true))

/-- What the launch gives each device. -/
def G : sProp 𝕄 :=
  iprop((bigSep Finset.univ fun k : Fin 25 => roundState ER (Rd m) (kcell (c, k)) 0) ∗ (bigSep Finset.univ fun k : Fin 25 => reached ER (kcell (c, k)) 0) ∗ minted c)

theorem mint : BI.own (ER (initOf theCells theToks)) ⊢ (|==> bigSep Finset.univ (G (F := F) m) : sProp 𝕄) := by
  have hX (Φ : GSem nD τ sig → sProp 𝕄) : bigSep theCells Φ = bigSep Finset.univ fun c : Dev nD => bigSep Finset.univ fun k : Fin 25 => Φ (kcell (c, k)) := by
    unfold theCells; rw [bigSep_map, bigSep_univ_prod]; rfl
  have hT : bigSep theToks (fun x => (dutyTok ER x.1 x.2.1 x.2.2 : sProp 𝕄)) = bigSep Finset.univ fun c : Dev nD =>
      iprop((bigSep Finset.univ fun k : Fin 25 => dutyTok ER (kcell (c, k)) 0 false) ∗ (bigSep Finset.univ fun k : Fin 25 => dutyTok ER (kcell (c, k)) 0 true)) := by
    unfold theToks
    rw [bigSep_map, bigSep_univ_prod, bigSep_univ_prod]
    refine bigSep_congr fun c _ => ?_
    rw [← bigSep_sep']
    refine bigSep_congr fun k _ => ?_
    rw [bigSep_univ_eq_bigSepL [false, true] (by decide) (by decide)]
    rfl
  iintro HX
  imod (Rounds.fund ER (Rd m) theCells theToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq (hT.trans (bigSep_sep' _ _ _))) $$ Htok
  unfold G minted
  simp only [bigSep_sep']
  icases Htok with ⟨T1, T2⟩
  isplitl [Hst]; · iexact Hst
  isplitl [Hr]; · iexact Hr
  isplitl [Hat]; · iexact Hat
  isplitl [T1]; · iexact T1
  iexact T2

/-! ## Dealing the tokens -/

def dstEquiv (n : Fin 12) : Dev nD ≃ Dev nD := ⟨dst n, src n, src_dst n, dst_src n⟩
def rightEquiv : Dev nD ≃ Dev nD := ⟨right, left, left_right, right_left⟩

/-- What a device needs of the tokens: those of its signals, and for each copy those of its send and of its receive. -/
def dealt : sProp 𝕄 :=
  iprop((dutyTok ER (barCell (left c)) 0 true ∗ dutyTok ER (barCell (right c)) 0 false ∗ atPos ER (barCell c) 0 ∅ 0)
    ∗ (bigSep Finset.univ fun n : Fin 12 => toSend (F := F) c n) ∗ (bigSep Finset.univ fun n : Fin 12 => atPos ER (rcvCell c n) 0 ∅ 0))

theorem rcv_around (Φ : GSem nD τ sig → sProp 𝕄) : (bigSep Finset.univ fun c : Dev nD => bigSep Finset.univ fun n : Fin 12 => Φ (rcvCell c n))
    = bigSep Finset.univ fun c : Dev nD => bigSep Finset.univ fun n : Fin 12 => Φ (rcvCell (dst n c) n) := by
  rw [bigSep_univ_comm, bigSep_univ_comm (fun (c : Dev nD) (n : Fin 12) => Φ (rcvCell (dst n c) n))]
  exact bigSep_congr fun n _ => bigSep_univ_equiv (dstEquiv n) (fun c : Dev nD => Φ (rcvCell c n))

theorem deal_toks : (bigSep Finset.univ fun c : Dev nD => minted (F := F) c) ⊢ bigSep Finset.univ fun c : Dev nD => dealt (F := F) c := by
  unfold minted dealt toSend
  simp only [cells_split _ (fun g => atPos ER g 0 ∅ 0), cells_split _ (fun g => dutyTok ER g 0 false), cells_split _ (fun g => dutyTok ER g 0 true), bigSep_sep']
  rw [rcv_around (fun g => dutyTok ER g 0 false), bigSep_univ_equiv rightEquiv (fun c : Dev nD => (dutyTok ER (barCell c) 0 false : sProp 𝕄)),
    bigSep_univ_equiv rightEquiv.symm (fun c : Dev nD => (dutyTok ER (barCell c) 0 true : sProp 𝕄))]
  iintro ⟨⟨A1, A2, A3⟩, ⟨B1, B2, B3⟩, -, -, C3⟩
  isplitl [C3 B3 A3]
  · isplitl [C3]; · iexact C3
    isplitl [B3]; · iexact B3
    iexact A3
  isplitr [A2]
  · isplitl [B1]; · iexact B1
    isplitl [B2]; · iexact B2
    iexact A1
  · iexact A2

/-! ## Allocating the cells -/

/-- What a device holds once the cells are allocated. -/
def G' : sProp 𝕄 := iprop((∃ K, records m K) ∗ dealt c ∗ kvZeros c)

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (Rd m) κ (kcell (c, k))))
          ∗ (bigSep Finset.univ fun k : Fin 25 => reached ER (kcell (c, k)) 0) ∗ minted c ∗ kvZeros c) := by
  unfold G
  iintro ⟨Hos, Hus, Hst, Hr, Hm⟩
  ihave ⟨Hkv, Hz⟩ := (sems_open (F := F) c) $$ [Hos Hus]
  · isplitl [Hos] <;> iassumption
  imod (show iprop(allZero c ∗ bigSep Finset.univ fun k : Fin 25 => roundState ER (Rd m) (kcell (c, k)) 0)
      ⊢ (|={Set.univ}=> bigSep Finset.univ fun k => iprop(∃ κ : ℕ, cellInv ER (Rd m) κ (kcell (c, k))) : sProp 𝕄) from by
        unfold allZero
        rw [← bigSep_sep']
        exact (bigSep_mono fun k _ => (Rounds.body_intro ER (Rd m) (kcell (c, k))).trans inv_alloc).trans (bigSep_fupd _ _)) $$ [Hz Hst] with Hinv
  · isplitl [Hz] <;> iassumption
  imodintro
  isplitl [Hinv]; · iexact Hinv
  isplitl [Hr]; · iexact Hr
  isplitl [Hm]; · iexact Hm
  iexact Hkv

theorem regroup :
    (bigSep Finset.univ fun c : Dev nD => iprop((bigSep Finset.univ fun k : Fin 25 => iprop(∃ κ : ℕ, cellInv ER (Rd m) κ (kcell (c, k))))
          ∗ (bigSep Finset.univ fun k : Fin 25 => reached ER (kcell (c, k)) 0) ∗ minted c ∗ kvZeros c) : sProp 𝕄)
      ⊢ bigSep Finset.univ (G' (F := F) m) := by
  rw [bigSep_sep', bigSep_sep', bigSep_sep', ← bigSep_univ_prod (fun ck : Dev nD × Fin 25 => iprop(∃ κ : ℕ, cellInv ER (Rd m) κ (kcell ck))),
    ← bigSep_univ_prod (fun ck : Dev nD × Fin 25 => (reached ER (kcell ck) 0 : sProp 𝕄))]
  iintro ⟨HI, #HR, Hm, Hz⟩
  ihave ⟨%K, #HI⟩ := (BI.bigSep_exists_pi Finset.univ (fun (ck : Dev nD × Fin 25) (κ : ℕ) => (cellInv ER (Rd m) κ (kcell ck) : sProp 𝕄))) $$ HI
  ihave Hd := (deal_toks (F := F)) $$ Hm
  ihave H := (Entails.of_eq (bigSep_sep' Finset.univ (fun c : Dev nD => dealt (F := F) c) (fun c => kvZeros c)).symm) $$ [Hd Hz]
  · isplitl [Hd] <;> iassumption
  iapply (bigSep_persist (R := records m K) fun c _ => show iprop(records m K ∗ dealt c ∗ kvZeros c) ⊢ G' m c from by
    unfold G'
    iintro ⟨Hr, Hd, Hz⟩
    isplitl [Hr]; · iexists K; iexact Hr
    isplitl [Hd] <;> iassumption)
  isplitr [H]
  · unfold records
    rw [bigSep_sep']
    isplitr; · iexact HI
    iexact HR
  · iexact H

/-- Every device's semaphores become cells, and the tokens are dealt. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' (F := F) m) :=
  ((bigSep_mono fun c _ => core_alloc m c).trans (bigSep_fupd _ _)).trans (BI.fupd_mono (regroup m))

/-! ## The launch credit -/

theorem credits (ns : List (Fin 12)) :
    (Pipeline.launchCred (fun d => owesL d ns) c : sProp 𝕄) ⊢ bigSepL ns fun n => cred (tallyAt (rcvCell c n) () (Nc n)) := by
  induction ns with
  | nil => iintro -; iempintro
  | cons n ns ih =>
    rw [bigSepL_cons]
    refine (Entails.of_eq (Pipeline.launchCred_add (fun d => owesL d ns) (fun d => tallyAt (rcvCell (dst n d) n) () (Nc n)) c)).trans ?_
    show _ ⊢ iprop(cred (tallyAt (rcvCell c n) () (Nc n)) ∗ bigSepL ns fun n => cred (tallyAt (rcvCell c n) () (Nc n)))
    iintro ⟨H, Hn⟩
    isplitl [Hn]
    · iapply (Pipeline.launchCred_tallyAt (.dma (rcvS n)) (dst n) (src n) (dst_src n) (src_dst n) () (Nc n) c) $$ Hn
    · iapply ih $$ H

/-- Each device gets two units at its barrier and the credit of the copies it receives. -/
theorem launch_credit : (Pipeline.launchCred O₀ c : sProp 𝕄)
    ⊢ iprop(cred (tallyAt (barCell c) () 2) ∗ bigSepL seqL fun n => cred (tallyAt (rcvCell c n) () (Nc n))) := by
  refine (Entails.of_eq (Pipeline.launchCred_add O₁ (fun d => tallyAt (barCell (left d)) () 1) c)).trans ?_
  iintro ⟨H, Hb⟩
  ihave ⟨H, Ha⟩ := (show Pipeline.launchCred O₁ c ⊢ _ from Entails.of_eq (Pipeline.launchCred_add (fun d => owesL d seqL) (fun d => tallyAt (barCell (right d)) () 1) c)) $$ H
  ihave Hb := (Pipeline.launchCred_tallyAt (.reg barSem) left right left_right right_left () 1 c) $$ Hb
  ihave Ha := (Pipeline.launchCred_tallyAt (.reg barSem) right left right_left left_right () 1 c) $$ Ha
  isplitl [Ha Hb]
  · rw [show (2 : ℕ) = 1 + 1 from rfl, ← tallyAt_add]
    iapply (cred_add _ _).2 $$ [Ha Hb]
    isplitl [Ha] <;> iassumption
  · iapply (credits c seqL) $$ H

/-- Tokens and credit are what the body starts with. -/
theorem tokens_intro : iprop(dealt c ∗ cred (tallyAt (barCell c) () 2) ∗ bigSepL seqL fun n => cred (tallyAt (rcvCell c n) () (Nc n))) ⊢ tokens (F := F) c := by
  have e1 : (bigSep Finset.univ fun n : Fin 12 => toSend (F := F) c n) = iprop(toSendOwn c ∗ toSendOn c) := by
    rw [bigSep_univ_eq_bigSepL ([0, 1, 6, 7, 2, 3, 8, 9] ++ [4, 5, 10, 11]) (by decide) (by decide), bigSepL_append]; rfl
  have e2 : iprop((bigSep Finset.univ fun n : Fin 12 => (atPos ER (rcvCell c n) 0 ∅ 0 : sProp 𝕄)) ∗ bigSepL seqL fun n => cred (tallyAt (rcvCell c n) () (Nc n)))
      = iprop((toRecv c 0 ∗ toRecv c 1 ∗ toRecv c 6 ∗ toRecv c 7) ∗ (toRecv c 2 ∗ toRecv c 3 ∗ toRecv c 8 ∗ toRecv c 9)
        ∗ (toRecv c 4 ∗ toRecv c 5 ∗ toRecv c 10 ∗ toRecv c 11)) := by
    rw [← bigSep_univ_eq_bigSepL seqL (by decide) (by decide), (show ∀ P Q : sProp 𝕄, iprop(P ∗ Q) = iprop(Q ∗ P) from fun P Q => BI.Entails.antisymm BI.sep_comm BI.sep_comm), ← bigSep_sep',
      bigSep_univ_eq_bigSepL ([0, 1, 6, 7] ++ ([2, 3, 8, 9] ++ [4, 5, 10, 11])) (by decide) (by decide), bigSepL_append, bigSepL_append]; rfl
  unfold dealt tokens
  rw [e1]
  iintro ⟨⟨⟨B1, B2, B3⟩, ⟨S1, S2⟩, R⟩, C, D⟩
  ihave ⟨R1, R2, R3⟩ := (Entails.of_eq e2) $$ [R D]
  · isplitl [R] <;> iassumption
  isplitl [B1 B2 B3 C]; · iframe
  iframe

end Cert.KernelIdeal.Attn

end
-- ==== Proof.KernelIdeal.Launch.lean ====
/-
# The launch

The kernel's one grid point under the launch theorem of the pipeline: from any memory, every run ends, with the
result's block at the contents computed and all else as it was.
-/
module

public import proofs.«01_k».proof.Proof.KernelIdeal.Ghost
public import proofs.«01_k».proof.Proof.Gen.KernelIdeal.Points
public import Idealize.ShloMosaic.Lib.Pipeline.CollectiveSegs

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- What a device starts from. -/
def start : sProp 𝕄 := iprop((∃ K, records m K) ∗ levAts L lv ∗ tokens c ∗ heldKV m c ∗ kvZeros c)
/-- What it keeps of the keys and values, as evidence that they stay as they were. -/
def kept : sProp 𝕄 :=
  iprop((((c : Thread nD τ).loc main_arg2) ↦{fullShare.right} m ((c : Thread nD τ).loc main_arg2))
    ∗ (((c : Thread nD τ).loc main_arg3) ↦{fullShare.right} m ((c : Thread nD τ).loc main_arg3)))

/-- The proof data of the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => wostg m c
    | ⟨3, _⟩ => outV m c
  Φ t := match t with
    | ⟨0, _⟩ => iprop(start m c ∗ scratch c)
    | ⟨_ + 1, _⟩ => iprop(scratch c ∗ kvZeros c ∗ allZero c)
  q _ := fullShare
  owed t := match t with
    | ⟨0, _⟩ => O₀ c
    | ⟨_ + 1, _⟩ => 0

theorem owns_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ bufPt c b f) := by
  unfold owns bufPt; simp only [Memref.view_whole, View.read_whole, View.set_whole]

theorem before0 (d) : (dats m ρ 0 c).before (0 : Fin 4) t0_0 d = xstg m c := by unfold Dat.before; rw [if_pos (fetch0_0 t0_0)]; rfl
theorem before1 (d) : (dats m ρ 0 c).before (1 : Fin 4) t0_0 d = wqstg m c := by unfold Dat.before; rw [if_pos (fetch0_1 t0_0)]; rfl
theorem before2 (d) : (dats m ρ 0 c).before (2 : Fin 4) t0_0 d = wostg m c := by unfold Dat.before; rw [if_pos (fetch0_2 t0_0)]; rfl

/-- A staged block of known contents. -/
abbrev stg (b : Ref sig .tc) (X : b.ty.Contents (Elt F)) : sProp 𝕄 := iprop(∃ f : Buf (Elt F) ((c : Thread nD τ).loc b), ⌜f = X⌝ ∗ bufPt c b f)

theorem stg_in (b : Ref sig .tc) (X Y : b.ty.Contents (Elt F)) (h : X = Y) : stg c b X ⊢ bufPt (F := F) c b Y := by
  subst h
  iintro ⟨%f, %hf, H⟩
  subst hf
  iexact H
theorem stg_out (b : Ref sig .tc) (X : b.ty.Contents (Elt F)) : bufPt c b X ⊢ stg (F := F) c b X := by
  iintro H
  iexists X
  isplitr; · ipureintro; rfl
  iexact H

/-- The body, with the staging around it. -/
theorem body_staged (K : Dev nD × Fin 25 → ℕ) :
    iprop((records m K ∗ levAts L lv ∗ tokens c ∗ heldKV m c ∗ kvZeros c) ∗ scratch c ∗ (dats m ρ 0 c).owesAt () t0_0.castSucc
        ∗ bufPt c cc0_stg0_0 (xstg m c) ∗ bufPt c cc0_stg1_0 (wqstg m c) ∗ bufPt c cc0_stg2_0 (wostg m c) ∗ bufAny (F := F) c cc0_stg3_0)
      ⊢ wpc c (body (F := F)) fun _ => iprop((scratch c ∗ kvZeros c ∗ allZero c) ∗ (dats m ρ 0 c).owesAt () t0_0.succ
        ∗ stg c cc0_stg0_0 (xstg m c) ∗ stg c cc0_stg1_0 (wqstg m c) ∗ stg c cc0_stg2_0 (wostg m c) ∗ stg c cc0_stg3_0 (outV m c)) := by
  refine Idealize.SL.BI.BIBase.Entails.trans ?_ (wp_fupd _ _ _ _ _)
  iintro ⟨⟨#Hr, #Hl, Ht, Hkv, Hz⟩, Hs, HO, H0, H1, H2, H3⟩
  unfold Dat.owesAt Pipeline.owesWithin
  icases HO with ⟨%W, %hW, HO⟩
  iapply (wp_wand _ _ _ (Q := fun _ => bodyPost m c)) $$ [Ht Hkv Hz Hs HO H0 H1 H2 H3]
  · iapply (body_spec m K c)
    unfold bodyPre staged
    isplitr; · iexact Hr
    isplitr; · iexact Hl
    isplitl [HO]; · unfold owe; iexists W; iexact HO
    iframe
  · iintro %_ H
    unfold bodyPost staged
    icases H with ⟨HO, Hp, -, Hz, ⟨H0, H1, H2⟩, H3, Hs⟩
    imod (close_cells m K c) $$ [Hp] with Ha
    · isplitr; · iexact Hr
      iexact Hp
    imodintro
    isplitl [Hs Hz Ha]; · iframe
    isplitl [HO]
    · unfold owe
      icases HO with ⟨%W', HO⟩
      iexists W'
      isplitr; · ipureintro; exact fun _ _ => Or.inl trivial
      iexact HO
    isplitl [H0]; · iapply (stg_out c) $$ H0
    isplitl [H1]; · iapply (stg_out c) $$ H1
    isplitl [H2]; · iapply (stg_out c) $$ H2
    iapply (stg_out c) $$ H3

set_option maxRecDepth 20000 in
/-- The obligation of the launch theorem for the body. -/
theorem body_obligation : BodyObligation (dats (F := F) m ρ 0 c) (defs₀ (F := F)) 𝒱₀ () Set.univ := fun t => by
  rw [fin_N0 t, bigSep_W0, bigSep_W0]
  show iprop((start m c ∗ scratch c) ∗ (dats m ρ 0 c).owesAt () t0_0.castSucc
      ∗ (∃ d, owns (c : Thread nD τ) (Memref.whole cc0_stg0_0) fullShare ((dats m ρ 0 c).before (0 : Fin 4) t0_0 d))
      ∗ (∃ d, owns (c : Thread nD τ) (Memref.whole cc0_stg1_0) fullShare ((dats m ρ 0 c).before (1 : Fin 4) t0_0 d))
      ∗ (∃ d, owns (c : Thread nD τ) (Memref.whole cc0_stg2_0) fullShare ((dats m ρ 0 c).before (2 : Fin 4) t0_0 d))
      ∗ (∃ d, owns (c : Thread nD τ) (Memref.whole cc0_stg3_0) fullShare ((dats m ρ 0 c).before (3 : Fin 4) t0_0 d)))
    ⊢ wpc c (bodyAt0 (F := F) t0_0) fun _ => iprop((scratch c ∗ kvZeros c ∗ allZero c) ∗ (dats m ρ 0 c).owesAt () t0_0.succ
      ∗ owns (c : Thread nD τ) (Memref.whole cc0_stg0_0) fullShare (xstg m c) ∗ owns (c : Thread nD τ) (Memref.whole cc0_stg1_0) fullShare (wqstg m c)
      ∗ owns (c : Thread nD τ) (Memref.whole cc0_stg2_0) fullShare (wostg m c) ∗ owns (c : Thread nD τ) (Memref.whole cc0_stg3_0) fullShare (outV m c))
  rw [body_eq]
  simp only [owns_eq]
  unfold start
  iintro ⟨⟨⟨⟨%K, Hr⟩, Hrest⟩, Hs⟩, HO, ⟨%d0, H0⟩, ⟨%d1, H1⟩, ⟨%d2, H2⟩, ⟨%d3, ⟨%f3, -, H3⟩⟩⟩
  iapply (body_staged m ρ c K)
  isplitl [Hr Hrest]
  · isplitl [Hr]; · iexact Hr
    iexact Hrest
  isplitl [Hs]; · iexact Hs
  isplitl [HO]; · iexact HO
  isplitl [H0]; · iapply (stg_in c cc0_stg0_0 _ _ (before0 m ρ c d0)) $$ H0
  isplitl [H1]; · iapply (stg_in c cc0_stg1_0 _ _ (before1 m ρ c d1)) $$ H1
  isplitl [H2]; · iapply (stg_in c cc0_stg2_0 _ _ (before2 m ρ c d2)) $$ H2
  unfold bufAny
  iexists f3
  iexact H3

/-! ## The side conditions -/

theorem ownSemFacts : Pipeline.OwnSemFacts cfg0.spec osem := by decide

theorem share_eq (w : Fin cfg0.W) : (dats m ρ 0 c).share w = fullShare := by unfold Dat.share; split <;> rfl

theorem held_intro (M : Memref sig .tc .hbm S4x1024x32x128 .f32) (hM : M.view.set = Finset.univ) (q : PosShare TreeShare) (X : M.view.ty.Contents (Elt F)) :
    (M.view.loc (c : Thread nD τ) ↦{q} X) ⊢ held c M X := by
  unfold held
  rw [hM]
  iintro H
  iexists q
  iexact H

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [show Pipeline.unscopedRestP Pipeline.Prefetch.none cfg0.spec c (fun b => m ((c : Thread nD τ).loc b))
    = Pipeline.unscopedRest spec0 c (fun b => m ((c : Thread nD τ).loc b)) from rfl, unscopedRest0_eq]
  unfold start kept G' heldKV
  iintro ⟨⟨H2, H3⟩, Hl, Hc, -, Hr, Hd, Hz⟩
  ihave Hc := (launch_credit (F := F) c) $$ Hc
  ihave Ht := (tokens_intro (F := F) c) $$ [Hd Hc]
  · isplitl [Hd] <;> iassumption
  ihave ⟨A2, B2⟩ := (pointsTo_share (PosShare.mem_left_op_right fullShare)).1 $$ H2
  ihave ⟨A3, B3⟩ := (pointsTo_share (PosShare.mem_left_op_right fullShare)).1 $$ H3
  ihave A2 := (held_intro c kM (View.set_whole _) _ _) $$ A2
  ihave A3 := (held_intro c vM (View.set_whole _) _ _) $$ A3
  imodintro
  isplitr [B2 B3]
  · isplitl [Hr]; · iexact Hr
    isplitl [Hl]; · iexact Hl
    isplitl [Ht]; · iexact Ht
    isplitr [Hz]
    · isplitl [A2]; · iexact A2
      iexact A3
    · iexact Hz
  · isplitl [B2] <;> iassumption

theorem scratch_eq : (Pipeline.scopedRest cfg0.spec c : sProp 𝕄) = scratch c := by
  rw [show (Pipeline.scopedRest cfg0.spec c : sProp 𝕄) = Pipeline.scopedRest spec0 c from rfl, scopedRest0_eq]
  unfold scratch bufAny bufPt
  rfl

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs]; · iexact Hs
  iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ kvZeros c ∗ allZero c) from rfl, scratch_eq]
  iintro ⟨Hs, Hz⟩
  ihave ⟨Hu, Ho⟩ := (sems_shut (F := F) c) $$ Hz
  isplitl [Hu]; · iexact Hu
  isplitl [Ho]; · iexact Ho
  iexact Hs

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The keys and values are read off the final memory. -/
theorem kept_read (s' : Phys nD τ sig (Elt F)) : iprop(kept m c ∗ SI s')
    ⊢ iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') := by
  unfold kept
  iintro ⟨⟨H2, H3⟩, HSI⟩
  icombine HSI H2 gives %h2
  icombine HSI H3 gives %h3
  isplitr
  · ipureintro
    exact ⟨Buf.eq_of_forall_mem_univ h2, Buf.eq_of_forall_mem_univ h3⟩
  · iexact HSI

/-! ## The run -/

/-- The contents of window `w`'s array at the end. -/
def finalA (w : Fin cfg0.W) : Buf (Elt F) ((cfg0.win w).arr.view.loc (c : Thread nD τ)) := (dats m ρ 0 c).arrAt w cfg0.N

/-- What the end of a run satisfies. -/
def Ends (s : MemSt nD τ sig (Elt F)) : Prop :=
  (∀ c : Dev nD, (∀ w : Fin cfg0.W, s.mem ((cfg0.win w).arr.view.loc (c : Thread nD τ)) = finalA m ρ c w)
    ∧ s.mem ((c : Thread nD τ).loc main_arg2) = m ((c : Thread nD τ).loc main_arg2)
    ∧ s.mem ((c : Thread nD τ).loc main_arg3) = m ((c : Thread nD τ).loc main_arg3))
    ∧ s.sem = fun _ => 0

set_option maxRecDepth 20000 in
/-- From any memory with every counter at zero, every fair run of the four devices ends, with the windows' arrays at
    their computed contents, keys and values as they were, and every counter at zero. -/
theorem run_main : θ_run defs (onTc (τ := τ) (main (F := F))) (s₀ m ρ) (fun r => Ends m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave ⟨HP, HX⟩ := (ownU_split _ _) $$ Hu
      imod (mint m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      iintro ⟨Hu, Hk, HSI⟩
      ihave ⟨%hk, HSI⟩ := (kept_read m c s') $$ [Hk HSI]
      · isplitl [Hk] <;> iassumption
      imod (Pipeline.unscopedSems0_read (X := unscopedSems0 c) (c := c) fupd_intro s') $$ [Hu HSI] with ⟨%hz, HSI⟩
      · isplitl [Hu] <;> iassumption
      imodintro
      isplitr
      · ipureintro; exact ⟨hz, hk⟩
      · iexact HSI)
    (hQ := fun _ h hs => ⟨fun c => ⟨(h c).1, (h c).2.2.2⟩, sem_eq_zero hs fun c => (h c).2.2.1⟩)

end Cert.KernelIdeal.Attn

end
-- ==== Proof.KernelIdeal.Results.lean ====
/-
# What a run leaves

Every device's arguments end as they were, its result's block ends at the contents the kernel computes, and every
counter ends at zero.
-/
module

public import proofs.«01_k».proof.Proof.KernelIdeal.Launch
public import Idealize.ShloMosaic.Lib.Pipeline.Value

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The arguments of every device are as they were. -/
def ArgsKept (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem ends_args {s : MemSt nD τ sig (Elt F)} (h : Ends m ρ s) : ArgsKept m s := fun c =>
  ⟨((h.1 c).1 (0 : Fin 4)).trans ((dats (F := F) m ρ 0 c).arrAt_in (0 : Fin 4) rfl _),
    ((h.1 c).1 (1 : Fin 4)).trans ((dats (F := F) m ρ 0 c).arrAt_in (1 : Fin 4) rfl _), (h.1 c).2.1, (h.1 c).2.2,
    ((h.1 c).1 (2 : Fin 4)).trans ((dats (F := F) m ρ 0 c).arrAt_in (2 : Fin 4) rfl _)⟩

/-- Every run ends, with the arguments as they were and every counter at zero. -/
theorem run_frame : θ_run defs (onTc (τ := τ) (main (F := F))) ⟨m, fun _ => 0, ρ⟩ (fun r => ArgsKept m r.2 ∧ r.2.sem = fun _ => 0) :=
  (θ_run defs _ _).mono (fun r h => ⟨ends_args m ρ h, h.2⟩) (run_main m ρ)

/-! ## The result -/

theorem blk_set : ∀ i : S1x1024x1024.Idx, i ∈ ((cfg0.win (3 : Fin 4)).blk t0_0).view.set := fun i => by
  show i ∈ ((View.whole main_v1).slice (win0_3.rect t0_0)).set
  rw [View.set_slice_whole, Rect.mem_set_unit]
  have e : ∀ a : Fin 3, win0_3.kind.off (win0_3.index t0_0 a) (win0_3.size a) = 0 ∧ win0_3.xsize (grid0.coords t0_0) a = S1x1024x1024.size a := by decide
  intro a
  rw [(e a).1, (e a).2]
  exact ⟨Nat.zero_le _, by rw [Nat.zero_add]; exact (i a).isLt⟩

theorem flushed_eq (t : Fin cfg0.N) : (dats m ρ 0 c).flushed (3 : Fin 4) t = ((cfg0.win (3 : Fin 4)).blk t).view.read (Elt F) (outV m c) := by
  obtain rfl := fin_N0 t
  have ha : (dats m ρ 0 c).after (3 : Fin 4) t0_0 = outV m c := rfl
  unfold Pipeline.Dat.flushed
  rw [ha]
  funext i
  refine congrArg (outV m c) (funext fun a => Fin.ext ?_)
  have e : ∀ a : Fin 3, win0_3.index t0_0 a = 0 := by decide
  exact (win0_3.rect_emb_val_of_index_zero t0_0 a (e a) i).symm

theorem final_out : finalA m ρ c (3 : Fin 4) = outV m c :=
  (dats m ρ 0 c).arrAt_eq_of_cover (3 : Fin 4) (outV m c) (fun t _ => flushed_eq m ρ c t) fun i => ⟨t0_0, flush0_3 _, blk_set i⟩

/-! ## The blocks read are the arguments -/

theorem xstg_eq : xstg m c = m ((c : Thread nD τ).loc main_arg0) := by
  funext i
  refine congrArg (m ((c : Thread nD τ).loc main_arg0)) (funext fun a => Fin.ext ?_)
  have e : ∀ a : Fin 3, win0_0.index t0_0 a = 0 := by decide
  exact win0_0.rect_emb_val_of_index_zero t0_0 a (e a) i

theorem wqstg_eq : wqstg m c = m ((c : Thread nD τ).loc main_arg1) := by
  funext i
  refine congrArg (m ((c : Thread nD τ).loc main_arg1)) (funext fun a => Fin.ext ?_)
  have e : ∀ a : Fin 2, win0_1.index t0_0 a = 0 := by decide
  exact win0_1.rect_emb_val_of_index_zero t0_0 a (e a) i

theorem wostg_eq : wostg m c = m ((c : Thread nD τ).loc main_arg4) := by
  funext i
  refine congrArg (m ((c : Thread nD τ).loc main_arg4)) (funext fun a => Fin.ext ?_)
  have e : ∀ a : Fin 2, win0_2.index t0_0 a = 0 := by decide
  exact win0_2.rect_emb_val_of_index_zero t0_0 a (e a) i

/-- Every run ends with the result's block at the contents computed. -/
theorem run_value : θ_run defs (onTc (τ := τ) (main (F := F))) ⟨m, fun _ => 0, ρ⟩
    (fun r => (∀ c : Dev nD, r.2.mem ((c : Thread nD τ).loc main_v1) = outV m c) ∧ ArgsKept m r.2) :=
  (θ_run defs _ _).mono (fun r h => ⟨fun c => ((h.1 c).1 (3 : Fin 4)).trans (final_out m ρ c), ends_args m ρ h⟩) (run_main m ρ)

end Cert.KernelIdeal.Attn

end
-- ==== Proof.Value.Row.lean ====
/-
# One row of block-causal attention

A row of scores weighs the values of the keys it may see: a key is seen where its block of 64 positions is not after
the row's block. The row's result is the weighted sum over the sum of the weights.
-/
module

public import Idealize.ShloMosaic.Lib.Pointwise

@[expose] public section

noncomputable section

namespace Cert.Attn

open Idealize.ShloMosaic

/-- Row `i` sees key `j`. -/
abbrev Sees (i j : Fin 1024) : Prop := j.val / 64 ≤ i.val / 64

/-- The result of row `i`: the values of the keys seen, weighed by the exponentials of the scores. -/
def att (s : Fin 1024 → EReal) (i : Fin 1024) (v : Fin 1024 → EReal) : EReal :=
  Ideal.div (∑ j, if Sees i j then Ideal.exp (s j) * v j else 0) (∑ j, if Sees i j then Ideal.exp (s j) else 0)

/-- A position in the upper half. -/
abbrev up (i : Fin 512) : Fin 1024 := ⟨i.val, by have := i.isLt; omega⟩
/-- A position in the lower half. -/
abbrev dn (i : Fin 512) : Fin 1024 := ⟨512 + i.val, by have := i.isLt; omega⟩

/-- What a row in the upper half sums over the keys it sees lies among the first 512 keys. -/
theorem sum_up (i : Fin 512) (f : Fin 1024 → EReal) :
    (∑ j, if Sees (up i) j then f j else 0) = ∑ j : Fin 512, if j.val / 64 ≤ i.val / 64 then f (up j) else 0 := by
  rw [Fin.sum_univ_two_halves 512 512 rfl]
  have z : (∑ k : Fin 512, if Sees (up i) (dn k) then f (dn k) else 0) = 0 :=
    Finset.sum_eq_zero fun k _ => if_neg (by have := i.isLt; show ¬(512 + k.val) / 64 ≤ i.val / 64; omega)
  exact (congrArg (_ + ·) z).trans (add_zero _)

/-- A row in the lower half sees all of the first 512 keys. -/
theorem sum_dn (i : Fin 512) (f : Fin 1024 → EReal) :
    (∑ j, if Sees (dn i) j then f j else 0)
      = (∑ j : Fin 512, f (up j)) + ∑ j : Fin 512, if j.val / 64 ≤ i.val / 64 then f (dn j) else 0 := by
  rw [Fin.sum_univ_two_halves 512 512 rfl]
  refine congrArg₂ (· + ·) (Finset.sum_congr rfl fun k _ => if_pos ?_) (Finset.sum_congr rfl fun k _ => ?_)
  · have := k.isLt; show k.val / 64 ≤ (512 + i.val) / 64; omega
  · have e : Sees (dn i) (dn k) ↔ k.val / 64 ≤ i.val / 64 := by show (512 + k.val) / 64 ≤ (512 + i.val) / 64 ↔ _; omega
    exact if_congr e rfl rfl

end Cert.Attn

end
-- ==== Proof.KernelIdeal.Heads.lean ====
/-
# What the heads of a half compute

The mask, the queries and the context of four heads, entry by entry over the extended reals.
-/
module

public import proofs.«01_k».proof.Proof.KernelIdeal.Results
public import proofs.«01_k».proof.Proof.Value.Row

@[expose] public section

noncomputable section

namespace Cert.KernelIdeal.Attn

open Idealize.ShloMosaic Cert.KernelIdeal.Gen Cert.Attn

/-! ## The mask -/

/-- A position divided by 64, as the kernel computes it. -/
def blockOf (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- It is the position divided by 64. -/
theorem blockOf_eq : ∀ i : Fin 512, blockOf (BitVec.ofNat 32 i.val) = BitVec.ofNat 32 (i.val / 64) := by decide +kernel

/-- The comparison of two blocks. -/
theorem cmp_blocks : ∀ a b : Fin 8, IntOp.cmpi .sle (BitVec.ofNat 32 a.val) (BitVec.ofNat 32 b.val) = if a.val ≤ b.val then 1#1 else 0#1 := by
  decide +kernel

/-- The mask holds where the key's block is not after the row's. -/
theorem mask_at (i j : Fin 512) : mask (ix2 i j) = if j.val / 64 ≤ i.val / 64 then 1#1 else 0#1 := by
  have e : mask (ix2 i j) = IntOp.cmpi .sle (blockOf (BitVec.ofNat 32 j.val)) (blockOf (BitVec.ofNat 32 i.val)) := by
    unfold mask blockOf
    pointwise [k0_pay9, k0_pay6, k0_pay7, k0_pay8]
  rw [e, blockOf_eq, blockOf_eq]
  exact cmp_blocks ⟨j.val / 64, by have := j.isLt; omega⟩ ⟨i.val / 64, by have := i.isLt; omega⟩

/-- Choosing by the mask. -/
theorem select_mask (i j : Fin 512) (x y : EReal) : Scalar.select (mask (ix2 i j)) x y = if j.val / 64 ≤ i.val / 64 then x else y := by
  rw [mask_at]
  split <;> rfl

/-! ## The two halves of the rows -/

/-- The upper 512 rows of a head. -/
theorem pay16_at (q : FVec Ideal S512x128 .bf16) (k : FVec Ideal S1024x128 .bf16) (v : Vec Ideal S1x1x1024x1x128 .f32) (i : Fin 512) (d : Fin 128) :
    (k0_pay16 mask q k v : FVec Ideal S512x128 .bf16) (ix2 i d)
      = att (fun j => ∑ e : Fin 128, q (ix2 i e) * k (ix2 j e)) (up i) (fun j => v (ix5 0 0 j 0 d)) := by
  rw [att, sum_up i fun j => Ideal.exp (∑ e : Fin 128, q (ix2 i e) * k (ix2 j e)) * v (ix5 0 0 j 0 d),
    sum_up i fun j => Ideal.exp (∑ e : Fin 128, q (ix2 i e) * k (ix2 j e))]
  simp only [← select_mask]
  generalize mask = M
  pointwise [k0_pay16, k0_pay15]

/-- The lower 512 rows of a head. -/
theorem pay17_at (q : FVec Ideal S512x128 .bf16) (k : FVec Ideal S1024x128 .bf16) (v : Vec Ideal S1x1x1024x1x128 .f32) (i : Fin 512) (d : Fin 128) :
    (k0_pay17 mask q k v : FVec Ideal S512x128 .bf16) (ix2 i d)
      = att (fun j => ∑ e : Fin 128, q (ix2 i e) * k (ix2 j e)) (dn i) (fun j => v (ix5 0 0 j 0 d)) := by
  rw [att, sum_dn i fun j => Ideal.exp (∑ e : Fin 128, q (ix2 i e) * k (ix2 j e)) * v (ix5 0 0 j 0 d),
    sum_dn i fun j => Ideal.exp (∑ e : Fin 128, q (ix2 i e) * k (ix2 j e))]
  simp only [← select_mask]
  generalize mask = M
  pointwise [k0_pay17, k0_pay15]

/-- The keys of a head, as they are read from their slot. -/
theorem pay14_at (k : Vec Ideal S1x1x1024x1x128 .f32) (j : Fin 1024) (d : Fin 128) :
    (k0_pay14 k : FVec Ideal S1024x128 .bf16) (ix2 j d) = k (ix5 0 0 j 0 d) := by
  pointwise [k0_pay14]
/-- A context as it is stored. -/
theorem pay18_at (x : FVec Ideal S512x128 .bf16) (i : Fin 512) (d : Fin 128) :
    (k0_pay18 x : FVec Ideal S512x128 .bf16) (ix2 i d) = x (ix2 i d) := by
  pointwise [k0_pay18]

/-- A block of the queries. -/
theorem slice_at (Q : FVec Ideal S1024x512 .bf16) (r h : ℕ) (hs) (i : Fin 512) (d : Fin 128) (R : Fin 1024) (L : Fin 512)
    (hR : R.val = 512 * r + i.val) (hL : L.val = 128 * h + d.val) :
    extractStridedSlice S512x128 ![512 * r, 128 * h] Q hs (ix2 i d) = Q (ix2 R L) := by
  refine congrArg Q (funext fun a => Fin.ext ?_)
  match a with
  | ⟨0, _⟩ => exact hR.symm
  | ⟨1, _⟩ => exact hL.symm

/-! ## The context -/

/-- The head of a column. -/
abbrev hd (l : Fin 512) : Fin 4 := ⟨l.val / 128, by have := l.isLt; omega⟩
/-- The column's place in its head. -/
abbrev pl (l : Fin 512) : Fin 128 := ⟨l.val % 128, Nat.mod_lt _ (by decide)⟩
/-- A column of a head. -/
abbrev co (h : Fin 4) (d : Fin 128) : Fin 512 := ⟨128 * h.val + d.val, by have := h.isLt; have := d.isLt; omega⟩

/-- The context of four heads, entry by entry. -/
theorem ctxOf_at (Q : FVec Ideal S1024x512 .bf16) (kr vr : Fin 4 → Vec Ideal S1x1x1024x1x128 .f32) (r : Fin 1024) (l : Fin 512) :
    (ctxOf Q kr vr : Vec Ideal S1024x512 .bf16) (ix2 r l)
      = att (fun j => ∑ e : Fin 128, Q (ix2 r (co (hd l) e)) * kr (hd l) (ix5 0 0 j 0 e)) r (fun j => vr (hd l) (ix5 0 0 j 0 (pl l))) := by
  have hr : r.val < 1024 := r.isLt
  by_cases h : r.val < 512
  · have e : (ctxOf Q kr vr : Vec Ideal S1024x512 .bf16) (ix2 r l) = ctxLo Q kr vr (hd l) (ix2 (⟨r.val, h⟩ : Fin 512) (pl l)) := by
      unfold ctxOf
      rw [if_pos (show (ix2 r l 0 : Fin 1024).val < 512 from h)]
      refine congrArg (ctxLo Q kr vr (hd l)) (funext fun a => Fin.ext ?_)
      match a with
      | ⟨0, _⟩ => exact (Nat.mod_eq_of_lt h : r.val % 512 = r.val)
      | ⟨1, _⟩ => rfl
    rw [e, ctxLo, pay16_at]
    refine congrFun (congrArg₂ att (funext fun j => Finset.sum_congr rfl fun e _ => ?_) (Fin.ext rfl)) _
    rw [pay14_at, slice_at Q 0 (hd l).val _ _ e r (co (hd l) e) (by show r.val = 512 * 0 + r.val; omega) rfl]
  · have e : (ctxOf Q kr vr : Vec Ideal S1024x512 .bf16) (ix2 r l) = ctxHi Q kr vr (hd l) (ix2 (⟨r.val - 512, by omega⟩ : Fin 512) (pl l)) := by
      unfold ctxOf
      rw [if_neg (show ¬(ix2 r l 0 : Fin 1024).val < 512 from h)]
      refine congrArg (ctxHi Q kr vr (hd l)) (funext fun a => Fin.ext ?_)
      match a with
      | ⟨0, _⟩ => exact (show r.val % 512 = r.val - 512 by omega)
      | ⟨1, _⟩ => rfl
    rw [e, ctxHi, pay18_at, pay17_at]
    refine congrFun (congrArg₂ att (funext fun j => Finset.sum_congr rfl fun e _ => ?_) (Fin.ext (show 512 + (r.val - 512) = r.val by omega))) _
    rw [pay14_at, slice_at Q 1 (hd l).val _ _ e r (co (hd l) e) (by show r.val = 512 * 1 + (r.val - 512); omega) rfl]

end Cert.KernelIdeal.Attn

end
-- ==== Proof.Value.Spec.lean ====
/-
# The attention layer, entry by entry

Queries are a projection of the input, scaled; each of 32 heads of width 128 attends block-causally; the contexts of
all heads are projected back.
-/
module

public import proofs.«01_k».proof.Proof.Value.Row

@[expose] public section

noncomputable section

namespace Cert.Attn

open Idealize.ShloMosaic

/-- The scale of the scores. -/
abbrev sc : EReal := Ideal.ofBits .f32 0x3DB504F3#32

variable (X : (⟨3, ![4, 1024, 1024]⟩ : Shape).Idx → EReal) (Wq : (⟨2, ![1024, 4096]⟩ : Shape).Idx → EReal)
  (K V : (⟨4, ![4, 1024, 32, 128]⟩ : Shape).Idx → EReal) (Wo : (⟨2, ![4096, 1024]⟩ : Shape).Idx → EReal)

/-- The head of a column. -/
abbrev headOf (l : Fin 4096) : Fin 32 := ⟨l.val / 128, by have := l.isLt; omega⟩
/-- The column's place in its head. -/
abbrev placeOf (l : Fin 4096) : Fin 128 := ⟨l.val % 128, Nat.mod_lt _ (by decide)⟩
/-- A column of a head. -/
abbrev colOf (h : Fin 32) (e : Fin 128) : Fin 4096 := ⟨128 * h.val + e.val, by have := h.isLt; have := e.isLt; omega⟩

/-- The score of key `j` for row `i` of head `h` in batch `b`. -/
def score (b : Fin 4) (h : Fin 32) (i j : Fin 1024) : EReal :=
  ∑ e : Fin 128, ((∑ k : Fin 1024, X (ix3 b i k) * Wq (ix2 k (colOf h e))) * sc) * K (ix4 b j h e)

/-- The context in batch `b`, row `i`, column `l`. -/
def ctx (b : Fin 4) (i : Fin 1024) (l : Fin 4096) : EReal :=
  att (score X Wq K b (headOf l) i) i fun j => V (ix4 b j (headOf l) (placeOf l))

/-- The result in batch `b`, row `i`, column `n`. -/
def out (b : Fin 4) (i n : Fin 1024) : EReal := ∑ l : Fin 4096, ctx X Wq K V b i l * Wo (ix2 l n)

/-- Position `l` of group `g`, of eight groups of 512 columns. -/
abbrev inGroup (g : Fin 8) (l : Fin 512) : Fin 4096 := ⟨g.val * 512 + l.val, by have := g.isLt; have := l.isLt; omega⟩

/-- What group `g` adds to the result. -/
def part (b : Fin 4) (i n : Fin 1024) (g : Fin 8) : EReal := ∑ l : Fin 512, ctx X Wq K V b i (inGroup g l) * Wo (ix2 (inGroup g l) n)

/-- The result is what the eight groups add. -/
theorem out_parts (b : Fin 4) (i n : Fin 1024) : out X Wq K V Wo b i n = ∑ g : Fin 8, part X Wq K V Wo b i n g :=
  Fin.sum_univ_tiles 8 512 rfl _

end Cert.Attn

end
-- ==== Proof.KernelIdeal.Output.lean ====
/-
# The kernel's result, entry by entry

Each half adds what its four heads contribute; whatever the order in which the halves come, all eight together are the
attention layer's result.
-/
module

public import proofs.«01_k».proof.Proof.KernelIdeal.Heads
public import proofs.«01_k».proof.Proof.Value.Spec

@[expose] public section

noncomputable section

namespace Cert.KernelIdeal.Attn

open Idealize.ShloMosaic Idealize.ShloMosaic.TcCoe Cert.KernelIdeal.Gen Cert.Attn

variable (m : (ℓ : Loc nD τ sig) → Buf (Elt Ideal) ℓ)
  (X : (⟨3, ![4, 1024, 1024]⟩ : Shape).Idx → EReal) (Wq : (⟨2, ![1024, 4096]⟩ : Shape).Idx → EReal)
  (K V : (⟨4, ![4, 1024, 32, 128]⟩ : Shape).Idx → EReal) (Wo : (⟨2, ![4096, 1024]⟩ : Shape).Idx → EReal)

/-- Position `l` of device `s`'s share of the 4096 columns. -/
abbrev inShare (s : Fin 4) (l : Fin 1024) : Fin 4096 := ⟨s.val * 1024 + l.val, by have := s.isLt; have := l.isLt; omega⟩

/-- The devices hold the arrays as the mesh lays them. -/
structure Laid : Prop where
  x : ∀ (c : Fin 4) (i k : Fin 1024), xstg m c (ix3 (0 : Fin 1) i k) = X (ix3 c i k)
  wq : ∀ (s : Fin 4) (k l : Fin 1024), wqstg m s (ix2 k l) = Wq (ix2 k (inShare s l))
  wo : ∀ (s : Fin 4) (k n : Fin 1024), wostg m s (ix2 k n) = Wo (ix2 (inShare s k) n)
  k : ∀ c : Fin 4, keysAt m c = K
  v : ∀ c : Fin 4, valsAt m c = V

/-! ## Weights -/

/-- The input as it is kept for the products. -/
theorem pay1_at (x : Vec Ideal S1x1024x1024 .f32) (i k : Fin 1024) : (k0_pay1 x : FVec Ideal S1024x1024 .bf16) (ix2 i k) = x (ix3 0 i k) := by
  pointwise [k0_pay1]
/-- The first half of the query weights, as it is sent. -/
theorem pay2_at (w : Vec Ideal S1024x512 .f32) (k : Fin 1024) (l : Fin 512) : (k0_pay2 w : FVec Ideal S1x1024x512 .bf16) (ix3 0 k l) = w (ix2 k l) := by
  pointwise [k0_pay2]
/-- The second half of the query weights, as it is sent. -/
theorem pay3_at (w : Vec Ideal S1024x512 .f32) (k : Fin 1024) (l : Fin 512) : (k0_pay3 w : FVec Ideal S1x1024x512 .bf16) (ix3 0 k l) = w (ix2 k l) := by
  pointwise [k0_pay3]
/-- The first half of the output weights, as it is sent. -/
theorem pay4_at (w : Vec Ideal S512x1024 .f32) (k : Fin 512) (n : Fin 1024) : (k0_pay4 w : FVec Ideal S1x512x1024 .bf16) (ix3 0 k n) = w (ix2 k n) := by
  pointwise [k0_pay4]
/-- The second half of the output weights, as it is sent. -/
theorem pay5_at (w : Vec Ideal S512x1024 .f32) (k : Fin 512) (n : Fin 1024) : (k0_pay5 w : FVec Ideal S1x512x1024 .bf16) (ix3 0 k n) = w (ix2 k n) := by
  pointwise [k0_pay5]
/-- Output weights, as they are read from their slot. -/
theorem pay10_at (w : Vec Ideal S1x512x1024 .bf16) (k : Fin 512) (n : Fin 1024) : (k0_pay10 w : FVec Ideal S512x1024 .bf16) (ix2 k n) = w (ix3 0 k n) := by
  pointwise [k0_pay10]
/-- The queries: the product, scaled. -/
theorem pay11_at (q : Vec Ideal S1x1024x512 .bf16) (x : Vec Ideal S1024x1024 .bf16) (i : Fin 1024) (l : Fin 512) :
    (k0_pay11 q x : FVec Ideal S1024x512 .bf16) (ix2 i l) = (∑ k : Fin 1024, x (ix2 i k) * q (ix3 0 k l)) * sc := by
  pointwise [k0_pay11]

/-- The first half of a device's query weights: its first 512 columns. -/
theorem wqLo_at (s : Dev nD) (k : Fin 1024) (l : Fin 512) : wqLo m s (ix2 k l) = wqstg m s (ix2 k (up l)) := by
  refine congrArg (wqstg m s) (funext fun a => Fin.ext ?_)
  match a with
  | ⟨0, _⟩ => exact (show 0 + 1 * k.val = k.val by omega)
  | ⟨1, _⟩ => exact (show 0 + 1 * l.val = l.val by omega)
/-- The second half of a device's query weights: its last 512 columns. -/
theorem wqHi_at (s : Dev nD) (k : Fin 1024) (l : Fin 512) : wqHi m s (ix2 k l) = wqstg m s (ix2 k (dn l)) := by
  refine congrArg (wqstg m s) (funext fun a => Fin.ext ?_)
  match a with
  | ⟨0, _⟩ => exact (show 0 + 1 * k.val = k.val by omega)
  | ⟨1, _⟩ => exact (show 512 + 1 * l.val = 512 + l.val by omega)
/-- The first half of a device's output weights: its first 512 rows. -/
theorem woLo_at (s : Dev nD) (k : Fin 512) (n : Fin 1024) : woLo m s (ix2 k n) = wostg m s (ix2 (up k) n) := by
  refine congrArg (wostg m s) (funext fun a => Fin.ext ?_)
  match a with
  | ⟨0, _⟩ => exact (show 0 + 1 * k.val = k.val by omega)
  | ⟨1, _⟩ => exact (show 0 + 1 * n.val = n.val by omega)
/-- The second half of a device's output weights: its last 512 rows. -/
theorem woHi_at (s : Dev nD) (k : Fin 512) (n : Fin 1024) : woHi m s (ix2 k n) = wostg m s (ix2 (dn k) n) := by
  refine congrArg (wostg m s) (funext fun a => Fin.ext ?_)
  match a with
  | ⟨0, _⟩ => exact (show 512 + 1 * k.val = 512 + k.val by omega)
  | ⟨1, _⟩ => exact (show 0 + 1 * n.val = n.val by omega)

/-! ## Contexts -/

variable {m X Wq K V Wo}

/-- The context of a group of four heads, from that group's columns of the query weights. -/
theorem ctx_group (H : Laid m X Wq K V Wo) (c : Fin 4) (g : Fin 8) (q : Vec Ideal S1x1024x512 .bf16)
    (hq : ∀ (k : Fin 1024) (l : Fin 512), q (ix3 0 k l) = Wq (ix2 k (inGroup g l))) (i : Fin 1024) (l : Fin 512) :
    (ctxOf (k0_pay11 q (xbOf m c)) (kvHead (keysAt m c) c g) (kvHead (valsAt m c) c g) : Vec Ideal S1024x512 .bf16) (ix2 i l)
      = ctx X Wq K V c i (inGroup g l) := by
  have hl := l.isLt
  have hg := g.isLt
  have e1 : (⟨4 * g.val + (hd l).val, by show 4 * g.val + l.val / 128 < 32; omega⟩ : Fin 32) = headOf (inGroup g l) :=
    Fin.ext (show 4 * g.val + l.val / 128 = (g.val * 512 + l.val) / 128 by omega)
  have e2 : pl l = placeOf (inGroup g l) := Fin.ext (show l.val % 128 = (g.val * 512 + l.val) % 128 by omega)
  rw [ctxOf_at, H.k, H.v]
  refine congrArg₂ (fun s v => att s i v) (funext fun j => Finset.sum_congr rfl fun e _ => ?_) (funext fun j => ?_)
  · have ek : kvHead (F := Ideal) K c g (hd l) (ix5 0 0 j 0 e) = K (ix4 c j (headOf (inGroup g l)) e) := by
      rw [← e1]
      refine congrArg K (funext fun a => ?_)
      match a with
      | ⟨0, _⟩ => rfl
      | ⟨1, _⟩ => rfl
      | ⟨2, _⟩ => rfl
      | ⟨3, _⟩ => rfl
    have ec : inGroup g (co (hd l) e) = colOf (headOf (inGroup g l)) e :=
      Fin.ext (show g.val * 512 + (128 * (l.val / 128) + e.val) = 128 * ((g.val * 512 + l.val) / 128) + e.val by omega)
    rw [pay11_at, ek]
    refine congrArg (fun z => z * sc * K (ix4 c j (headOf (inGroup g l)) e)) (Finset.sum_congr rfl fun k _ => ?_)
    rw [hq, ec]
    refine congrArg (· * _) ?_
    rw [xbOf, pay1_at]
    exact H.x c i k
  · rw [← e1, ← e2]
    refine congrArg V (funext fun a => ?_)
    match a with
    | ⟨0, _⟩ => rfl
    | ⟨1, _⟩ => rfl
    | ⟨2, _⟩ => rfl
    | ⟨3, _⟩ => rfl

/-- The context of the heads of device `s`'s first half. -/
theorem ctxA_at (H : Laid m X Wq K V Wo) (c s : Fin 4) (i : Fin 1024) (l : Fin 512) :
    ctxA m c s (ix2 i l) = ctx X Wq K V c i (inGroup (gA s) l) :=
  ctx_group H c (gA s) _ (fun k l => by
    rw [pay2_at, wqLo_at, H.wq]
    exact congrArg (fun z => Wq (ix2 k z)) (Fin.ext (show s.val * 1024 + l.val = 2 * s.val * 512 + l.val by omega))) i l
/-- The context of the heads of device `s`'s second half. -/
theorem ctxB_at (H : Laid m X Wq K V Wo) (c s : Fin 4) (i : Fin 1024) (l : Fin 512) :
    ctxB m c s (ix2 i l) = ctx X Wq K V c i (inGroup (gB s) l) :=
  ctx_group H c (gB s) _ (fun k l => by
    rw [pay3_at, wqHi_at, H.wq]
    exact congrArg (fun z => Wq (ix2 k z)) (Fin.ext (show s.val * 1024 + (512 + l.val) = (2 * s.val + 1) * 512 + l.val by omega))) i l

/-! ## The result -/

/-- The product of a context with output weights. -/
theorem pay47_at (w : FVec Ideal S512x1024 .bf16) (x : Vec Ideal S1024x512 .bf16) (i n : Fin 1024) :
    (k0_pay47 w x : FVec Ideal S1x1024x1024 .f32) (ix3 0 i n) = ∑ l : Fin 512, x (ix2 i l) * w (ix2 l n) := by
  pointwise [k0_pay47]
/-- The product of a context with output weights, added to what is there. -/
theorem pay81_at (f : Vec Ideal S1x1024x1024 .f32) (w : FVec Ideal S512x1024 .bf16) (x : Vec Ideal S1024x512 .bf16) (i n : Fin 1024) :
    (k0_pay81 (k0_pay48 f) w x : FVec Ideal S1x1024x1024 .f32) (ix3 0 i n) = f (ix3 0 i n) + ∑ l : Fin 512, x (ix2 i l) * w (ix2 l n) := by
  pointwise [k0_pay81, k0_pay48]

/-- The output weights of device `s`'s first half. -/
theorem woA_at (H : Laid m X Wq K V Wo) (s : Fin 4) (l : Fin 512) (n : Fin 1024) :
    (k0_pay10 (k0_pay4 (woLo m s)) : FVec Ideal S512x1024 .bf16) (ix2 l n) = Wo (ix2 (inGroup (gA s) l) n) := by
  rw [pay10_at, pay4_at, woLo_at, H.wo]
  exact congrArg (fun z => Wo (ix2 z n)) (Fin.ext (show s.val * 1024 + l.val = 2 * s.val * 512 + l.val by omega))
/-- The output weights of device `s`'s second half. -/
theorem woB_at (H : Laid m X Wq K V Wo) (s : Fin 4) (l : Fin 512) (n : Fin 1024) :
    (k0_pay10 (k0_pay5 (woHi m s)) : FVec Ideal S512x1024 .bf16) (ix2 l n) = Wo (ix2 (inGroup (gB s) l) n) := by
  rw [pay10_at, pay5_at, woHi_at, H.wo]
  exact congrArg (fun z => Wo (ix2 z n)) (Fin.ext (show s.val * 1024 + (512 + l.val) = (2 * s.val + 1) * 512 + l.val by omega))

/-- The first product stored: a group's part. -/
theorem firstA_at (H : Laid m X Wq K V Wo) (c s : Fin 4) (i n : Fin 1024) :
    firstA m c s (ix3 (0 : Fin 1) i n) = part X Wq K V Wo c i n (gA s) :=
  (pay47_at _ _ i n).trans (Finset.sum_congr rfl fun l _ => congrArg₂ (· * ·) (ctxA_at H c s i l) (woA_at H s l n))
/-- Adding a first half: a group's part more. -/
theorem addA_at (H : Laid m X Wq K V Wo) (c s : Fin 4) (f : Vec Ideal S1x1024x1024 .f32) (i n : Fin 1024) :
    addA m c s f (ix3 (0 : Fin 1) i n) = f (ix3 0 i n) + part X Wq K V Wo c i n (gA s) :=
  (pay81_at f _ _ i n).trans (congrArg (_ + ·) (Finset.sum_congr rfl fun l _ => congrArg₂ (· * ·) (ctxA_at H c s i l) (woA_at H s l n)))
/-- Adding a second half: a group's part more. -/
theorem addB_at (H : Laid m X Wq K V Wo) (c s : Fin 4) (f : Vec Ideal S1x1024x1024 .f32) (i n : Fin 1024) :
    addB m c s f (ix3 (0 : Fin 1) i n) = f (ix3 0 i n) + part X Wq K V Wo c i n (gB s) :=
  (pay81_at f _ _ i n).trans (congrArg (_ + ·) (Finset.sum_congr rfl fun l _ => congrArg₂ (· * ·) (ctxB_at H c s i l) (woB_at H s l n)))

/-- The eight groups, in the order of any device. -/
theorem sum_groups (f : Fin 8 → EReal) (c : Fin 4) :
    f (gA c) + f (gB c) + f (gA (left c)) + f (gB (right c)) + f (gB (left c)) + f (gA (right c)) + f (gA (opp c)) + f (gB (opp c)) = ∑ g : Fin 8, f g := by
  have ends : ∀ c : Fin 4, ([gA c, gB c, gA (left c), gB (right c), gB (left c), gA (right c), gA (opp c), gB (opp c)] : List (Fin 8)).Perm
      [0, 1, 2, 3, 4, 5, 6, 7] := by decide
  have e := ((ends c).map f).sum_eq
  simp only [List.map_cons, List.map_nil, List.sum_cons, List.sum_nil, add_zero] at e
  rw [Fin.sum_univ_eight]
  simp only [add_assoc]
  exact e

/-- The kernel's result at device `c` is the layer's result for batch `c`. -/
theorem outV_at (H : Laid m X Wq K V Wo) (c : Fin 4) (i n : Fin 1024) : outV m c (ix3 (0 : Fin 1) i n) = out X Wq K V Wo c i n := by
  rw [out_parts, ← sum_groups (part X Wq K V Wo c i n) c]
  unfold outV outFar outNear outOwn
  rw [addB_at H, addA_at H, addA_at H, addB_at H, addB_at H, addA_at H, addB_at H, firstA_at H]

end Cert.KernelIdeal.Attn

end
-- ==== Proof.Value.Softmax.lean ====
/-
# The softmax, subtracting the row's maximum or not

Masking a row of real scores with −∞, subtracting the row's maximum and norming the exponentials before they weigh the
values gives the same as weighing the values by the exponentials of the scores seen and dividing at the end.
-/
module

public import proofs.«01_k».proof.Proof.Value.Row

@[expose] public section

noncomputable section

namespace Cert.Attn

open Idealize.ShloMosaic

/-- A finite sum of reals is real. -/
theorem coe_sum {ι : Type} (t : Finset ι) (f : ι → ℝ) : (∑ j ∈ t, (f j : EReal)) = ((∑ j ∈ t, f j : ℝ) : EReal) := by
  classical
  induction t using Finset.induction_on with
  | empty => simp
  | insert a t h ih => rw [Finset.sum_insert h, Finset.sum_insert h, ih, EReal.coe_add]

/-- A nonnegative real factor moves into a sum of extended reals. -/
theorem sum_mul_coe {ι : Type} (t : Finset ι) (f : ι → EReal) (r : ℝ) (hr : 0 ≤ r) : (∑ j ∈ t, f j) * (r : EReal) = ∑ j ∈ t, f j * (r : EReal) := by
  classical
  induction t using Finset.induction_on with
  | empty => simp
  | insert a t h ih =>
    rw [Finset.sum_insert h, Finset.sum_insert h, ← ih]
    exact EReal.right_distrib_of_nonneg_of_ne_top (EReal.coe_nonneg.2 hr) (EReal.coe_ne_top r) _ _

/-- A row of scores, masked. -/
def masked (s : Fin 1024 → EReal) (i j : Fin 1024) : EReal := if Sees i j then s j else ⊥
/-- The largest of a row. -/
def top (t : Fin 1024 → EReal) : EReal := Finset.univ.fold max ⊥ t
/-- The weights of a row before they are normed. -/
def wts (t : Fin 1024 → EReal) (j : Fin 1024) : EReal := Ideal.exp (t j - top t)

/-- The largest of a masked row of real scores is real. -/
theorem top_real (s : Fin 1024 → ℝ) (i : Fin 1024) : ∃ M : ℝ, top (masked (fun j => s j) i) = M := by
  have e : top (masked (fun j => s j) i) = Finset.univ.sup (masked (fun j => s j) i) := rfl
  obtain ⟨j, -, hj⟩ := Finset.exists_mem_eq_sup Finset.univ ⟨i, Finset.mem_univ i⟩ (masked (fun j => s j) i)
  by_cases h : Sees i j
  · exact ⟨s j, by rw [e, hj, masked, if_pos h]⟩
  · exfalso
    have l := Finset.le_sup (f := masked (fun j => s j) i) (Finset.mem_univ i)
    rw [hj, masked, masked, if_neg h, if_pos le_rfl] at l
    exact EReal.coe_ne_bot _ (le_bot_iff.1 l)

/-- The softmax of a row of real scores, weighing the values. -/
theorem softmax (s : Fin 1024 → ℝ) (i : Fin 1024) (v : Fin 1024 → EReal) :
    (∑ j, v j * Ideal.div (wts (masked (fun j => s j) i) j) (∑ j, wts (masked (fun j => s j) i) j)) = att (fun j => s j) i v := by
  obtain ⟨M, hM⟩ := top_real s i
  have hw : ∀ j, wts (masked (fun j => s j) i) j = ((if Sees i j then Real.exp (s j) * Real.exp (-M) else 0 : ℝ) : EReal) := by
    intro j
    rw [wts, hM, masked]
    split
    · rw [← EReal.coe_sub, Ideal.exp_coe, sub_eq_add_neg, Real.exp_add]
    · rw [EReal.bot_sub, Ideal.exp_bot, EReal.coe_zero]
  have hp : 0 < ∑ j, (if Sees i j then Real.exp (s j) else 0 : ℝ) :=
    Finset.sum_pos' (fun j _ => by split <;> positivity) ⟨i, Finset.mem_univ i, by rw [if_pos le_rfl]; positivity⟩
  have hd : (∑ j, (if Sees i j then Real.exp (s j) * Real.exp (-M) else 0 : ℝ)) = (∑ j, (if Sees i j then Real.exp (s j) else 0 : ℝ)) * Real.exp (-M) := by
    rw [Finset.sum_mul]
    exact Finset.sum_congr rfl fun j _ => by split <;> simp
  have he : (∑ j, if Sees i j then Ideal.exp ((s j : ℝ) : EReal) else 0) = ((∑ j, (if Sees i j then Real.exp (s j) else 0 : ℝ) : ℝ) : EReal) := by
    rw [← coe_sum]
    exact Finset.sum_congr rfl fun j _ => by split <;> simp [Ideal.exp_coe]
  have hM0 := Real.exp_pos (-M)
  rw [att, he]
  simp only [hw]
  rw [coe_sum, hd]
  generalize (∑ j, (if Sees i j then Real.exp (s j) else 0 : ℝ)) = D at hp
  rw [Ideal.div_coe hp.ne', sum_mul_coe _ _ _ (by positivity)]
  refine Finset.sum_congr rfl fun j _ => ?_
  rw [Ideal.div_coe (mul_pos hp hM0).ne', ← EReal.coe_mul]
  split
  · rw [Ideal.exp_coe, mul_comm _ (v j), mul_assoc (v j), ← EReal.coe_mul]
    congr 2
    field_simp
  · simp

end Cert.Attn

end
-- ==== Proof.ReferenceIdeal.Stages.lean ====
/-
# The reference in stages

The mask, the rows that see a key, the masked scores, the weights, the normed weights and the result; and each of them
at an index.
-/
module

public import proofs.«01_k».proof.Proof.Gen.ReferenceIdeal.Run
public import proofs.«01_k».proof.Proof.Value.Spec
public import proofs.«01_k».proof.Proof.Value.Softmax

@[expose] public section

noncomputable section

namespace Cert.ReferenceIdeal.Attn

open Idealize.ShloMosaic Idealize.ShloMosaic.TcCoe Cert.ReferenceIdeal Cert.ReferenceIdeal.Gen Cert.Attn

/-- The block of each position. -/
def blocks : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The mask. -/
def mask : IVec S1024x1024 1 :=
  cmpi .sle (broadcastInDim S1024x1024 ![0, 1] bcast_S1x1024_S1024x1024_0_1 (broadcastInDim S1x1024 ![1] bcast_S1024_S1x1024_1 blocks))
    (broadcastInDim S1024x1024 ![0, 1] bcast_S1024x1_S1024x1024_0_1 (broadcastInDim S1024x1 ![0] bcast_S1024_S1024x1_0 blocks))

/-- The rows that see a key. -/
def keep : IVec S1024 1 := Host.reduce IntOp.ori mask (constantI S_ 1 0#1) reducesTo_S1024x1024_S1024_d1 h_S_

/-- The masked scores. -/
def scores (x : FVec Ideal S4x1024x1024 .f32) (wq : FVec Ideal S1024x4096 .f32) (k : FVec Ideal S4x1024x32x128 .f32) : FVec Ideal S4x32x1024x1024 .f32 :=
  select (broadcastInDim S4x32x1024x1024 ![0, 1, 2, 3] bcast_S1x1x1024x1024_S4x32x1024x1024_0_1_2_3
      (broadcastInDim S1x1x1024x1024 ![2, 3] bcast_S1024x1024_S1x1x1024x1024_2_3 mask))
    (mulf (Host.dotGeneral dot_S4x1024x32x128_S4x1024x32x128_S4x32x1024x1024_3_3_1_1_02_02 none
        (shapeCast _ (Host.dotGeneral dot_S4x1024x1024_S1024x4096_S4x1024x4096_2_0_01_1_n_n none x wq) shapeCasts_S4x1024x4096_S4x1024x32x128) k)
      (broadcastInDim S4x32x1024x1024 ![] bcast_S_S4x32x1024x1024 (constant S_ .f32 0x3DB504F3#32)))
    (broadcastInDim S4x32x1024x1024 ![] bcast_S_S4x32x1024x1024 (id (constant S_ .f32 0xFF800000#32)))

/-- The weights before they are normed. -/
def weights (s : FVec Ideal S4x32x1024x1024 .f32) : FVec Ideal S4x32x1024x1024 .f32 :=
  Host.exp (subf s (broadcastInDim S4x32x1024x1024 ![0, 1, 2, 3] bcast_S4x32x1024x1_S4x32x1024x1024_0_1_2_3
    (broadcastInDim S4x32x1024x1 ![0, 1, 2] bcast_S4x32x1024_S4x32x1024x1_0_1_2
      (Host.reduce FloatOps.maximumf s (constant S_ .f32 0xFF800000#32) reducesTo_S4x32x1024x1024_S4x32x1024_d3 h_S_))))

/-- The normed weights. -/
def normed (e : FVec Ideal S4x32x1024x1024 .f32) : FVec Ideal S4x32x1024x1024 .f32 :=
  select (broadcastInDim S4x32x1024x1024 ![0, 1, 2, 3] bcast_S1x1x1024x1_S4x32x1024x1024_0_1_2_3
      (broadcastInDim S1x1x1024x1 ![2] bcast_S1024_S1x1x1024x1_2 keep))
    (Host.divf e (broadcastInDim S4x32x1024x1024 ![0, 1, 2, 3] bcast_S4x32x1024x1_S4x32x1024x1024_0_1_2_3
      (select (broadcastInDim S4x32x1024x1 ![0, 1, 2, 3] bcast_S1x1x1024x1_S4x32x1024x1_0_1_2_3 (broadcastInDim S1x1x1024x1 ![2] bcast_S1024_S1x1x1024x1_2 keep))
        (broadcastInDim S4x32x1024x1 ![0, 1, 2] bcast_S4x32x1024_S4x32x1024x1_0_1_2
          (Host.reduceAdd e (constant S_ .f32 0x00000000#32) reducesTo_S4x32x1024x1024_S4x32x1024_d3 h_S_))
        (broadcastInDim S4x32x1024x1 ![] bcast_S_S4x32x1024x1 (id (constant S_ .f32 0x3F800000#32))))))
    (broadcastInDim S4x32x1024x1024 ![] bcast_S_S4x32x1024x1024 (id (constant S_ .f32 0x00000000#32)))

/-- The result, of the normed weights. -/
def result (v : FVec Ideal S4x1024x32x128 .f32) (w : FVec Ideal S4x32x1024x1024 .f32) (wo : FVec Ideal S4096x1024 .f32) : FVec Ideal S4x1024x1024 .f32 :=
  Host.dotGeneral dot_S4x1024x4096_S4096x1024_S4x1024x1024_2_0_01_1_n_n none
    (shapeCast _ (transpose S4x1024x32x128 [0, 3, 1, 2] (Host.dotGeneral dot_S4x1024x32x128_S4x32x1024x1024_S4x32x128x1024_1_3_3_2_02_01 none v w)
      transposes_S4x32x128x1024_S4x1024x32x128_0_3_1_2) shapeCasts_S4x1024x32x128_S4x1024x4096) wo

/-- The block of a position is the position divided by 64. -/
theorem blocks_at (i : Fin 1024) : blocks (ix1 i) = BitVec.ofNat 32 (i.val / 64) := by
  unfold blocks
  simp only [id_eq]
  pointwise []
  revert i
  decide +kernel

/-- The comparison of two blocks. -/
theorem sle_blocks : ∀ a b : Fin 16, IntOp.cmpi .sle (BitVec.ofNat 32 a.val) (BitVec.ofNat 32 b.val) = if a.val ≤ b.val then 1#1 else 0#1 := by
  decide +kernel

/-- The mask holds where the row sees the key. -/
theorem mask_at (i j : Fin 1024) : mask (ix2 i j) = if Sees i j then 1#1 else 0#1 := by
  have e : mask (ix2 i j) = IntOp.cmpi .sle (blocks (ix1 j)) (blocks (ix1 i)) := by
    unfold mask
    generalize blocks = B
    pointwise []
  rw [e, blocks_at, blocks_at]
  exact sle_blocks ⟨j.val / 64, by have := j.isLt; omega⟩ ⟨i.val / 64, by have := i.isLt; omega⟩

/-- One, or anything. -/
theorem one_ori : ∀ x : BitVec 1, IntOp.ori 1#1 x = 1#1 := by decide

/-- Every row sees a key: its own position. -/
theorem keep_at (i : Fin 1024) : keep (ix1 i) = 1#1 := by
  have e : keep (ix1 i) = Finset.univ.fold IntOp.ori (0#1) (fun j : Fin 1024 => mask (ix2 i j)) := by
    unfold keep
    generalize mask = M
    pointwise []
  rw [e, ← Finset.insert_erase (Finset.mem_univ i), Finset.fold_insert (Finset.notMem_erase i _), mask_at, if_pos le_rfl]
  exact one_ori _

/-- The word of −∞. -/
theorem ofBits_neg_inf : Ideal.ofBits .f32 0xFF800000#32 = ⊥ := by simp [Ideal.ofBits, Ideal.ieee]

/-- The masked scores of a row. -/
theorem scores_at (x : FVec Ideal S4x1024x1024 .f32) (wq : FVec Ideal S1024x4096 .f32) (k : FVec Ideal S4x1024x32x128 .f32) (b : Fin 4) (h : Fin 32) (i j : Fin 1024) :
    scores x wq k (ix4 b h i j)
      = masked (fun j => (∑ e : Fin 128, (∑ l : Fin 1024, x (ix3 b i l) * wq (ix2 l (colOf h e))) * k (ix4 b j h e)) * sc) i j := by
  have e : scores x wq k (ix4 b h i j)
      = Scalar.select (mask (ix2 i j)) ((∑ e : Fin 128, (∑ l : Fin 1024, x (ix3 b i l) * wq (ix2 l ⟨h.val * 128 + e.val, by have := h.isLt; have := e.isLt; omega⟩)) * k (ix4 b j h e)) * sc)
          (Ideal.ofBits .f32 0xFF800000#32) := by
    unfold scores
    simp only [id_eq]
    generalize mask = M
    pointwise []
  have c : ∀ e : Fin 128, (⟨h.val * 128 + e.val, by have := h.isLt; have := e.isLt; omega⟩ : Fin 4096) = colOf h e :=
    fun e => Fin.ext (show h.val * 128 + e.val = 128 * h.val + e.val by omega)
  rw [e, mask_at, ofBits_neg_inf, masked]
  simp only [c]
  split <;> rfl

/-- The weights of a row. -/
theorem weights_at (s : FVec Ideal S4x32x1024x1024 .f32) (b : Fin 4) (h : Fin 32) (i j : Fin 1024) :
    weights s (ix4 b h i j) = wts (fun j => s (ix4 b h i j)) j := by
  rw [wts, top, ← ofBits_neg_inf]
  pointwise [weights]

/-- The normed weights of a row. -/
theorem normed_at (e : FVec Ideal S4x32x1024x1024 .f32) (b : Fin 4) (h : Fin 32) (i j : Fin 1024) :
    normed e (ix4 b h i j) = Ideal.div (e (ix4 b h i j)) (∑ j, e (ix4 b h i j)) := by
  have a : normed e (ix4 b h i j)
      = Scalar.select (keep (ix1 i)) (Ideal.div (e (ix4 b h i j)) (Scalar.select (keep (ix1 i)) (∑ j, e (ix4 b h i j)) (Ideal.ofBits .f32 0x3F800000#32)))
          (Ideal.ofBits .f32 0x00000000#32) := by
    unfold normed
    simp only [id_eq]
    generalize keep = M
    pointwise []
  rw [a, keep_at]
  rfl

/-- The result at an index. -/
theorem result_at (v : FVec Ideal S4x1024x32x128 .f32) (w : FVec Ideal S4x32x1024x1024 .f32) (wo : FVec Ideal S4096x1024 .f32)
    (b : Fin 4) (i n : Fin 1024) :
    result v w wo (ix3 b i n)
      = ∑ l : Fin 4096, (∑ j : Fin 1024, v (ix4 b j (headOf l) (placeOf l)) * w (ix4 b (headOf l) i j)) * wo (ix2 l n) := by
  pointwise [result]

/-- What the reference computes is its stages, one after the other. -/
theorem res_stages (m : (ℓ : Loc nD τ sig) → Buf (Elt Ideal) ℓ) (c : Dev nD) :
    Value.res_main_v33 m c
      = result (m ((c.tc : Thread nD τ).loc main_arg3)) (normed (weights (scores (m ((c.tc : Thread nD τ).loc main_arg0)) (m ((c.tc : Thread nD τ).loc main_arg1)) (m ((c.tc : Thread nD τ).loc main_arg2))))) (m ((c.tc : Thread nD τ).loc main_arg4)) := by
  unfold Value.res_main_v33 result normed weights scores keep mask blocks
  rfl

end Cert.ReferenceIdeal.Attn

end
-- ==== Proof.ReferenceIdeal.Output.lean ====
/-
# The reference's result, entry by entry

Of a finite input, finite query weights and finite keys, the reference computes the attention layer's result.
-/
module

public import proofs.«01_k».proof.Proof.ReferenceIdeal.Stages

@[expose] public section

noncomputable section

namespace Cert.ReferenceIdeal.Attn

open Idealize.ShloMosaic Cert.ReferenceIdeal Cert.Attn

/-- An array holds finite numbers. -/
def Finite {s : Shape} (x : s.Idx → EReal) : Prop := ∃ r : s.Idx → ℝ, x = fun p => (r p : EReal)

/-- The scale of the scores is real. -/
theorem sc_real : ∃ r : ℝ, sc = (r : EReal) := by
  refine ⟨11863283 * (2 ^ 27)⁻¹, ?_⟩
  rw [EReal.coe_mul]
  simp [sc, Ideal.ofBits, Ideal.ieee]

/-- Of finite numbers, a score is real, whether the scale is applied to the queries or to the score. -/
theorem score_real (x : FVec Ideal S4x1024x1024 .f32) (wq : FVec Ideal S1024x4096 .f32) (k : FVec Ideal S4x1024x32x128 .f32)
    (hx : Finite x) (hq : Finite wq) (hk : Finite k) (b : Fin 4) (h : Fin 32) (i : Fin 1024) :
    ∃ s : Fin 1024 → ℝ, (∀ j, score x wq k b h i j = s j)
      ∧ ∀ j, (∑ e : Fin 128, (∑ l : Fin 1024, x (ix3 b i l) * wq (ix2 l (colOf h e))) * k (ix4 b j h e)) * sc = s j := by
  obtain ⟨xr, rfl⟩ := hx
  obtain ⟨qr, rfl⟩ := hq
  obtain ⟨kr, rfl⟩ := hk
  obtain ⟨r, hr⟩ := sc_real
  refine ⟨fun j => ∑ e : Fin 128, ((∑ l : Fin 1024, xr (ix3 b i l) * qr (ix2 l (colOf h e))) * r) * kr (ix4 b j h e), fun j => ?_, fun j => ?_⟩
  · simp only [score, hr, ← EReal.coe_mul, coe_sum]
  · simp only [hr, ← EReal.coe_mul, coe_sum]
    rw [Finset.sum_mul]
    exact congrArg _ (Finset.sum_congr rfl fun e _ => by ring)

/-- The reference's result is the layer's result. -/
theorem result_out (x : FVec Ideal S4x1024x1024 .f32) (wq : FVec Ideal S1024x4096 .f32) (k v : FVec Ideal S4x1024x32x128 .f32)
    (wo : FVec Ideal S4096x1024 .f32) (hx : Finite x) (hq : Finite wq) (hk : Finite k) (b : Fin 4) (i n : Fin 1024) :
    result v (normed (weights (scores x wq k))) wo (ix3 b i n) = out x wq k v wo b i n := by
  rw [result_at]
  refine Finset.sum_congr rfl fun l _ => congrArg (· * wo (ix2 l n)) ?_
  obtain ⟨s, h1, h2⟩ := score_real x wq k hx hq hk b (headOf l) i
  have hs : (fun j => scores x wq k (ix4 b (headOf l) i j)) = masked (fun j => s j) i := by
    funext j
    rw [scores_at]
    exact congrArg (fun t => masked t i j) (funext h2)
  have hc : score x wq k b (headOf l) i = fun j => (s j : EReal) := funext h1
  rw [ctx, hc, ← softmax]
  refine Finset.sum_congr rfl fun j _ => congrArg _ ?_
  rw [normed_at]
  simp only [weights_at, hs]

end Cert.ReferenceIdeal.Attn

end
-- ==== Proof.Algebraic.lean ====
/-
# The kernel's result is the reference's

Where the input, the query weights and the keys are finite: device `c`'s result is block `c` of the reference's.
-/
module

public import proofs.«01_k».proof.Defs
public import proofs.«01_k».proof.Proof.KernelIdeal.Output
public import proofs.«01_k».proof.Proof.ReferenceIdeal.Output

@[expose] public section

noncomputable section

namespace Cert.Proof

open Idealize.ShloMosaic Idealize.SL.Sem Cert.Attn Cert.ReferenceIdeal.Attn
open Cert.KernelIdeal.Attn (Laid inShare xstg_eq wqstg_eq wostg_eq outV outV_at run_value)

/-- The side conditions of the precondition read on a device's blocks. -/
instance preKernel : Cert.Pre_finite_scores_KernelIdeal.Facts := ⟨by decide, by decide, by decide⟩
/-- The side conditions of the precondition read on the whole arrays. -/
instance preReference : Cert.Pre_finite_scores_ReferenceIdeal.Facts := ⟨by decide, by decide, by decide⟩

/-- The word of +∞. -/
theorem ofBits_inf : Ideal.ofBits .f32 0x7F800000#32 = ⊤ := by simp [Ideal.ofBits, Ideal.ieee]

/-- An entry whose magnitude lies below +∞ is real. -/
theorem real_of_lt (x : EReal) (h : Ideal.cmp .olt (max x (-x)) (Ideal.ofBits .f32 0x7F800000#32) = 1#1) : ∃ r : ℝ, x = r := by
  rw [ofBits_inf] at h
  have l : max x (-x) < ⊤ := by
    by_contra n
    simp [Ideal.cmp, n] at h
  refine ⟨x.toReal, (EReal.coe_toReal (fun e => ?_) fun e => ?_).symm⟩
  · rw [e] at l; simp at l
  · rw [e] at l; simp at l

/-- An array is finite where each entry is real. -/
theorem finite_of {s : Shape} (x : s.Idx → EReal) (h : ∀ p, ∃ r : ℝ, x p = r) : Finite x :=
  ⟨fun p => (h p).choose, funext fun p => (h p).choose_spec⟩

section

variable (m : (ℓ : Loc Cert.KernelIdeal.nD Cert.KernelIdeal.τ Cert.KernelIdeal.sig) → Buf (Elt Ideal) ℓ)

/-- What the precondition says: each entry of the input, of the query weights and of the keys is real. -/
theorem pre_real (h : Cert.Pre_KernelIdeal_finite_scores_KernelIdeal m) (c : Dev Cert.KernelIdeal.nD) :
    (∀ p, ∃ r : ℝ, m ((c.tc : Thread Cert.KernelIdeal.nD Cert.KernelIdeal.τ).loc Cert.KernelIdeal.main_arg0) p = (r : EReal))
      ∧ (∀ p, ∃ r : ℝ, m ((c.tc : Thread Cert.KernelIdeal.nD Cert.KernelIdeal.τ).loc Cert.KernelIdeal.main_arg1) p = (r : EReal))
      ∧ ∀ p, ∃ r : ℝ, m ((c.tc : Thread Cert.KernelIdeal.nD Cert.KernelIdeal.τ).loc Cert.KernelIdeal.main_arg2) p = (r : EReal) :=
  ⟨fun p => real_of_lt _ (congrFun (h c).1 p), fun p => real_of_lt _ (congrFun (h c).2.1 p), fun p => real_of_lt _ (congrFun (h c).2.2 p)⟩

variable (m' : (ℓ : Loc Cert.ReferenceIdeal.nD Cert.ReferenceIdeal.τ Cert.ReferenceIdeal.sig) → Buf (Elt Ideal) ℓ)

/-- The kernel's memory holds the reference's arguments as the mesh lays them. -/
def Agree : Prop :=
  ∀ c : Dev Cert.KernelIdeal.nD,
    m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
    ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
    ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
    ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
    ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))

/-- The reference's input. -/
abbrev inX : FVec Ideal Cert.ReferenceIdeal.S4x1024x1024 .f32 := m' (((0 : Dev Cert.ReferenceIdeal.nD).tc : Thread Cert.ReferenceIdeal.nD Cert.ReferenceIdeal.τ).loc Cert.ReferenceIdeal.main_arg0)
/-- The reference's query weights. -/
abbrev inWq : FVec Ideal Cert.ReferenceIdeal.S1024x4096 .f32 := m' (((0 : Dev Cert.ReferenceIdeal.nD).tc : Thread Cert.ReferenceIdeal.nD Cert.ReferenceIdeal.τ).loc Cert.ReferenceIdeal.main_arg1)
/-- The reference's keys. -/
abbrev inK : FVec Ideal Cert.ReferenceIdeal.S4x1024x32x128 .f32 := m' (((0 : Dev Cert.ReferenceIdeal.nD).tc : Thread Cert.ReferenceIdeal.nD Cert.ReferenceIdeal.τ).loc Cert.ReferenceIdeal.main_arg2)
/-- The reference's values. -/
abbrev inV : FVec Ideal Cert.ReferenceIdeal.S4x1024x32x128 .f32 := m' (((0 : Dev Cert.ReferenceIdeal.nD).tc : Thread Cert.ReferenceIdeal.nD Cert.ReferenceIdeal.τ).loc Cert.ReferenceIdeal.main_arg3)
/-- The reference's output weights. -/
abbrev inWo : FVec Ideal Cert.ReferenceIdeal.S4096x1024 .f32 := m' (((0 : Dev Cert.ReferenceIdeal.nD).tc : Thread Cert.ReferenceIdeal.nD Cert.ReferenceIdeal.τ).loc Cert.ReferenceIdeal.main_arg4)

variable {m m'}

/-- Entry by entry. -/
theorem laid (h : Agree m m') : Laid m (inX m') (inWq m') (inK m') (inV m') (inWo m') where
  x c i k := by
    rw [xstg_eq]
    refine (congrFun (h c).1 (ix3 (0 : Fin 1) i k)).trans (congrArg (inX m') (funext fun a => Fin.ext ?_))
    match a with
    | ⟨0, _⟩ => exact (show c.val * 1 + 0 = c.val by omega)
    | ⟨1, _⟩ => rfl
    | ⟨2, _⟩ => rfl
  wq s k l := by
    rw [wqstg_eq]
    refine (congrFun (h s).2.1 (ix2 k l)).trans (congrArg (inWq m') (funext fun a => Fin.ext ?_))
    match a with
    | ⟨0, _⟩ => rfl
    | ⟨1, _⟩ => rfl
  wo s k n := by
    rw [wostg_eq]
    refine (congrFun (h s).2.2.2.2 (ix2 k n)).trans (congrArg (inWo m') (funext fun a => Fin.ext ?_))
    match a with
    | ⟨0, _⟩ => rfl
    | ⟨1, _⟩ => rfl
  k c := (h c).2.2.1
  v c := (h c).2.2.2.1

/-- The reference's input, query weights and keys are finite. -/
theorem finite_args (hp : Cert.Pre_KernelIdeal_finite_scores_KernelIdeal m) (h : Agree m m') :
    Finite (inX m') ∧ Finite (inWq m') ∧ Finite (inK m') := by
  have H := laid h
  refine ⟨finite_of _ fun p => ?_, finite_of _ fun p => ?_, finite_of _ fun p => ?_⟩
  · obtain ⟨r, hr⟩ := (pre_real m hp (p 0)).1 (ix3 (0 : Fin 1) (p 1) (p 2))
    refine ⟨r, (congrArg (inX m') (eq_ix3 p)).trans ((H.x (p 0) (p 1) (p 2)).symm.trans ((congrFun (xstg_eq m (p 0)) _).trans hr))⟩
  · obtain ⟨k, l, rfl⟩ : ∃ (k : Fin 1024) (l : Fin 4096), p = ix2 k l := ⟨p 0, p 1, eq_ix2 p⟩
    have hl := l.isLt
    let s : Fin 4 := ⟨l.val / 1024, by omega⟩
    let t : Fin 1024 := ⟨l.val % 1024, Nat.mod_lt _ (by decide)⟩
    have e : l = inShare s t := Fin.ext (show l.val = l.val / 1024 * 1024 + l.val % 1024 by omega)
    obtain ⟨r, hr⟩ := (pre_real m hp s).2.1 (ix2 k t)
    exact ⟨r, (congrArg (fun z => inWq m' (ix2 k z)) e).trans ((H.wq s k t).symm.trans ((congrFun (wqstg_eq m s) _).trans hr))⟩
  · obtain ⟨r, hr⟩ := (pre_real m hp 0).2.2 p
    exact ⟨r, (congrFun (h 0).2.2.1 p).symm.trans hr⟩

/-- Device `c`'s result is block `c` of the reference's. -/
theorem out_block (hp : Cert.Pre_KernelIdeal_finite_scores_KernelIdeal m) (h : Agree m m') (c : Fin 4) :
    outV m c = Layout.block ⟨3, ![1, 1024, 1024]⟩ ⟨3, ![4, 1024, 1024]⟩ 0 4 c (Cert.ReferenceIdeal.Value.res_main_v33 m' 0) := by
  obtain ⟨hx, hq, hk⟩ := finite_args hp h
  funext p
  obtain ⟨i, n, rfl⟩ : ∃ i n : Fin 1024, p = ix3 (0 : Fin 1) i n := ⟨p 1, p 2, (eq_ix3 p).trans (congrArg (ix3 · (p 1) (p 2)) (Subsingleton.elim (α := Fin 1) _ _))⟩
  rw [outV_at (laid h), ← result_out _ _ _ _ _ hx hq hk, res_stages]
  refine congrArg (result _ _ _) (funext fun a => Fin.ext ?_)
  match a with
  | ⟨0, _⟩ => exact (show c.val = c.val * 1 + 0 by omega)
  | ⟨1, _⟩ => rfl
  | ⟨2, _⟩ => rfl

end

/-- The kernel's results are the reference's. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preKernel) := fun m g m' g' hp h =>
  ⟨Cert.ReferenceIdeal.Value.res_main_v33 m' 0,
    (θ_run Cert.KernelIdeal.defs _ _).mono (fun _ e c => ⟨(e.1 c).trans (out_block hp h c), e.2 c⟩) (run_value m g),
    (θ_run Cert.ReferenceIdeal.defs _ _).mono (fun _ e => e 0) (Cert.ReferenceIdeal.Value.run (F := Ideal) m' g')⟩

end Cert.Proof

end
-- ==== Proof.lean ====
/-
# The proof of the certificate's claims

Each claim is read off the theorem that proves it.
-/
module

public import proofs.«01_k».proof.Proof.Kernel.Results
public import proofs.«01_k».proof.Proof.Algebraic

@[expose] public section

noncomputable section

namespace Cert.Proof

open Idealize.ShloMosaic Idealize.SL.Sem

/-- Every run of the reference ends with the arguments as they were; it has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All the claims. A frame that needs no precondition holds under one. -/
theorem claim : Cert.Claim := ⟨Cert.Kernel.Gen.facts, Cert.KernelIdeal.Gen.facts, Cert.ReferenceIdeal.Gen.facts, preKernel, preReference,
  fun m g _ => Cert.Kernel.Attn.run_frame m g, fun m g _ => Cert.KernelIdeal.Attn.run_frame m g, fun m g _ => Cert.KernelIdeal.Attn.run_frame m g,
  frame_reference, fun m g _ => frame_reference m g trivial, trivial, algebraic⟩

end Cert.Proof

end
